-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x8192x128 : Shape := ⟨3, ![8, 8192, 128]⟩
abbrev S128x100 : Shape := ⟨2, ![128, 100]⟩
abbrev S_ : Shape := ⟨0, ![]⟩
abbrev S128x128 : Shape := ⟨2, ![128, 128]⟩
abbrev S1 : Shape := ⟨1, ![1]⟩
abbrev S128x2x64 : Shape := ⟨3, ![128, 2, 64]⟩
abbrev S2x128x64 : Shape := ⟨3, ![2, 128, 64]⟩
abbrev S8x2x1x128 : Shape := ⟨4, ![8, 2, 1, 128]⟩
abbrev S1x8192x128 : Shape := ⟨3, ![1, 8192, 128]⟩
abbrev S1x128x64 : Shape := ⟨3, ![1, 128, 64]⟩
abbrev S1x1x1x128 : Shape := ⟨4, ![1, 1, 1, 128]⟩
abbrev S8x128 : Shape := ⟨2, ![8, 128]⟩
abbrev S8192x128 : Shape := ⟨2, ![8192, 128]⟩
abbrev S128x64 : Shape := ⟨2, ![128, 64]⟩
abbrev S8192x64 : Shape := ⟨2, ![8192, 64]⟩
abbrev S1024x1024 : Shape := ⟨2, ![1024, 1024]⟩
abbrev S1024x128 : Shape := ⟨2, ![1024, 128]⟩
abbrev S1024x1 : Shape := ⟨2, ![1024, 1]⟩
abbrev S512x2x8x128 : Shape := ⟨4, ![512, 2, 8, 128]⟩
abbrev S512x1x8x128 : Shape := ⟨4, ![512, 1, 8, 128]⟩
abbrev S512x8x128 : Shape := ⟨3, ![512, 8, 128]⟩
abbrev S512x1x1 : Shape := ⟨3, ![512, 1, 1]⟩
abbrev S256x2x16x128 : Shape := ⟨4, ![256, 2, 16, 128]⟩
abbrev S256x1x16x128 : Shape := ⟨4, ![256, 1, 16, 128]⟩
abbrev S256x16x128 : Shape := ⟨3, ![256, 16, 128]⟩
abbrev S256x1x1 : Shape := ⟨3, ![256, 1, 1]⟩
abbrev S128x2x32x128 : Shape := ⟨4, ![128, 2, 32, 128]⟩
abbrev S128x1x32x128 : Shape := ⟨4, ![128, 1, 32, 128]⟩
abbrev S128x32x128 : Shape := ⟨3, ![128, 32, 128]⟩
abbrev S128x1x1 : Shape := ⟨3, ![128, 1, 1]⟩
abbrev S64x2x64x128 : Shape := ⟨4, ![64, 2, 64, 128]⟩
abbrev S64x1x64x128 : Shape := ⟨4, ![64, 1, 64, 128]⟩
abbrev S64x64x128 : Shape := ⟨3, ![64, 64, 128]⟩
abbrev S64x1x1 : Shape := ⟨3, ![64, 1, 1]⟩
abbrev S32x2x128x128 : Shape := ⟨4, ![32, 2, 128, 128]⟩
abbrev S32x1x128x128 : Shape := ⟨4, ![32, 1, 128, 128]⟩
abbrev S32x128x128 : Shape := ⟨3, ![32, 128, 128]⟩
abbrev S32x1x1 : Shape := ⟨3, ![32, 1, 1]⟩
abbrev S16x2x256x128 : Shape := ⟨4, ![16, 2, 256, 128]⟩
abbrev S16x1x256x128 : Shape := ⟨4, ![16, 1, 256, 128]⟩
abbrev S16x256x128 : Shape := ⟨3, ![16, 256, 128]⟩
abbrev S16x1x1 : Shape := ⟨3, ![16, 1, 1]⟩
abbrev S8x2x512x128 : Shape := ⟨4, ![8, 2, 512, 128]⟩
abbrev S8x1x512x128 : Shape := ⟨4, ![8, 1, 512, 128]⟩
abbrev S8x512x128 : Shape := ⟨3, ![8, 512, 128]⟩
abbrev S8x1x1 : Shape := ⟨3, ![8, 1, 1]⟩
abbrev S4x2x1024x128 : Shape := ⟨4, ![4, 2, 1024, 128]⟩
abbrev S4x1x1024x128 : Shape := ⟨4, ![4, 1, 1024, 128]⟩
abbrev S4x1024x128 : Shape := ⟨3, ![4, 1024, 128]⟩
abbrev S4x1x1 : Shape := ⟨3, ![4, 1, 1]⟩
abbrev S2x2x2048x128 : Shape := ⟨4, ![2, 2, 2048, 128]⟩
abbrev S2x1x2048x128 : Shape := ⟨4, ![2, 1, 2048, 128]⟩
abbrev S2x2048x128 : Shape := ⟨3, ![2, 2048, 128]⟩
abbrev S2x1x1 : Shape := ⟨3, ![2, 1, 1]⟩
abbrev S1x2x4096x128 : Shape := ⟨4, ![1, 2, 4096, 128]⟩
abbrev S1x1x4096x128 : Shape := ⟨4, ![1, 1, 4096, 128]⟩
abbrev S1x4096x128 : Shape := ⟨3, ![1, 4096, 128]⟩
abbrev S1x1x1 : Shape := ⟨3, ![1, 1, 1]⟩
abbrev S64 : Shape := ⟨1, ![64]⟩
abbrev S1x64 : Shape := ⟨2, ![1, 64]⟩
abbrev S1x128 : Shape := ⟨2, ![1, 128]⟩
abbrev S8x2x1x64 : Shape := ⟨4, ![8, 2, 1, 64]⟩
abbrev S8x2x64 : Shape := ⟨3, ![8, 2, 64]⟩
abbrev S8x100 : Shape := ⟨2, ![8, 100]⟩
abbrev S8 : Shape := ⟨1, ![8]⟩

abbrev nBuf : Space → Nat
  | .hbm => 25
  | .vmem => 9
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S128x100, .f32⟩
  | .hbm, ⟨3, _⟩ => ⟨S_, .f32⟩
  | .hbm, ⟨4, _⟩ => ⟨S128x128, .f32⟩
  | .hbm, ⟨5, _⟩ => ⟨S_, .i32⟩
  | .hbm, ⟨6, _⟩ => ⟨S1, .i32⟩
  | .hbm, ⟨7, _⟩ => ⟨S128x128, .f32⟩
  | .hbm, ⟨8, _⟩ => ⟨S128x2x64, .f32⟩
  | .hbm, ⟨9, _⟩ => ⟨S2x128x64, .f32⟩
  | .hbm, ⟨10, _⟩ => ⟨S8x2x1x128, .f32⟩
  | .hbm, ⟨11, _⟩ => ⟨S8x2x1x64, .f32⟩
  | .hbm, ⟨12, _⟩ => ⟨S8x2x64, .f32⟩
  | .hbm, ⟨13, _⟩ => ⟨S8x128, .f32⟩
  | .hbm, ⟨14, _⟩ => ⟨S8x100, .f32⟩
  | .hbm, ⟨15, _⟩ => ⟨S_, .f32⟩
  | .hbm, ⟨16, _⟩ => ⟨S8, .f32⟩
  | .hbm, ⟨17, _⟩ => ⟨S_, .f32⟩
  | .hbm, ⟨18, _⟩ => ⟨S8, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .local _ .vmem, ⟨0, _⟩ => ⟨S1x8192x128, .f32⟩
  | .local _ .vmem, ⟨1, _⟩ => ⟨S1x8192x128, .f32⟩
  | .local _ .vmem, ⟨2, _⟩ => ⟨S1x8192x128, .f32⟩
  | .local _ .vmem, ⟨3, _⟩ => ⟨S1x8192x128, .f32⟩
  | .local _ .vmem, ⟨4, _⟩ => ⟨S1x128x64, .f32⟩
  | .local _ .vmem, ⟨5, _⟩ => ⟨S1x128x64, .f32⟩
  | .local _ .vmem, ⟨6, _⟩ => ⟨S1x1x1x128, .f32⟩
  | .local _ .vmem, ⟨7, _⟩ => ⟨S1x1x1x128, .f32⟩
  | .local _ .vmem, ⟨8, _⟩ => ⟨S8x128, .f32⟩
  | _, _ => ⟨S8x8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1x1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8x8192x128 : Shape := ⟨3, ![8, 8192, 128]⟩
abbrev S128x100 : Shape := ⟨2, ![128, 100]⟩
abbrev S8x8192x100 : Shape := ⟨3, ![8, 8192, 100]⟩
abbrev S_ : Shape := ⟨0, ![]⟩
abbrev S8x100 : Shape := ⟨2, ![8, 100]⟩
abbrev S8 : Shape := ⟨1, ![8]⟩

abbrev nBuf : Space → Nat
  | .hbm => 29
  | .vmem => 0
  | .smem => 0
  | _ => 0

abbrev bufTy : (tb : Table) → Fin (tcTables nBuf tb) → BufTy
  | .hbm, ⟨0, _⟩ => ⟨S8x8192x128, .f32⟩
  | .hbm, ⟨1, _⟩ => ⟨S8x8192x128, .f32⟩
  | .hbm, ⟨2, _⟩ => ⟨S128x100, .f32⟩
  | .hbm, ⟨3, _⟩ => ⟨S8x8192x100, .f32⟩
  | .hbm, ⟨4, _⟩ => ⟨S8x8192x100, .f32⟩
  | .hbm, ⟨5, _⟩ => ⟨S8x8192x100, .f32⟩
  | .hbm, ⟨6, _⟩ => ⟨S8x8192x100, .f32⟩
  | .hbm, ⟨7, _⟩ => ⟨S8x8192x100, .f32⟩
  | .hbm, ⟨8, _⟩ => ⟨S8x8192x100, .f32⟩
  | .hbm, ⟨9, _⟩ => ⟨S_, .f32⟩
  | .hbm, ⟨10, _⟩ => ⟨S8x8192x100, .f32⟩
  | .hbm, ⟨11, _⟩ => ⟨S8x8192x100, .f32⟩
  | .hbm, ⟨12, _⟩ => ⟨S_, .f32⟩
  | .hbm, ⟨13, _⟩ => ⟨S8x100, .f32⟩
  | .hbm, ⟨14, _⟩ => ⟨S_, .f32⟩
  | .hbm, ⟨15, _⟩ => ⟨S8x100, .f32⟩
  | .hbm, ⟨16, _⟩ => ⟨S8x100, .f32⟩
  | .hbm, ⟨17, _⟩ => ⟨S_, .f32⟩
  | .hbm, ⟨18, _⟩ => ⟨S8, .f32⟩
  | .hbm, ⟨19, _⟩ => ⟨S_, .f32⟩
  | .hbm, ⟨20, _⟩ => ⟨S8, .f32⟩
  | .hbm, ⟨21, _⟩ => ⟨S8, .f32⟩
  | .hbm, ⟨22, _⟩ => ⟨S_, .f32⟩
  | .hbm, ⟨23, _⟩ => ⟨S8, .f32⟩
  | .hbm, ⟨24, _⟩ => ⟨S8, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | _, _ => ⟨S8x8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_cst_1 : Ref sig .tc := ⟨.hbm, 14, rfl⟩
abbrev main_v9 : Ref sig .tc := ⟨.hbm, 15, rfl⟩
abbrev main_v10 : Ref sig .tc := ⟨.hbm, 16, rfl⟩
abbrev main_cst_2 : Ref sig .tc := ⟨.hbm, 17, rfl⟩
abbrev main_v11 : Ref sig .tc := ⟨.hbm, 18, rfl⟩
abbrev main_cst_3 : Ref sig .tc := ⟨.hbm, 19, rfl⟩
abbrev main_v12 : Ref sig .tc := ⟨.hbm, 20, rfl⟩
abbrev main_v13 : Ref sig .tc := ⟨.hbm, 21, rfl⟩
abbrev main_cst_4 : Ref sig .tc := ⟨.hbm, 22, rfl⟩
abbrev main_v14 : Ref sig .tc := ⟨.hbm, 23, rfl⟩
abbrev main_v15 : Ref sig .tc := ⟨.hbm, 24, rfl⟩
abbrev main_cst_5 : Ref sig .tc := ⟨.hbm, 25, rfl⟩
abbrev main_v16 : Ref sig .tc := ⟨.hbm, 26, rfl⟩
abbrev main_cst_6 : Ref sig .tc := ⟨.hbm, 27, rfl⟩
abbrev main_v17 : Ref sig .tc := ⟨.hbm, 28, rfl⟩

abbrev nD : Nat := 1
abbrev τ : Topo := Topo.v7x

variable {F : FTy → Type} [FloatOps F]
-- ==== Proof.Stages.lean ====
/-
  The sorting stages of the kernel, read as stages of a bitonic network on the 8192 rows of each column.
-/
module

public import proofs.«01_k».proof.Proof.Gen.KernelIdeal
public import Idealize.ShloMosaic.Lib.ValueIdx
public import Idealize.ShloMosaic.Lib.Pipeline.Value
public import Idealize.ShloMosaic.Lib.SortNet.Sorts

@[expose] public section

noncomputable section

open Idealize.ShloMosaic Idealize.ShloMosaic.ValueIdx Idealize.ShloMosaic.SortNet
open Cert.KernelIdeal Cert.KernelIdeal.Gen

namespace Cert.Swd

/-! ## One stage on the whole array -/

/-- One compare-and-exchange stage on every column of an [8192, 128] array: rows whose numbers differ in bit `s` are
    exchanged, the lesser first where the row has no bit of `d` set and the greater first elsewhere. -/
def stageArr (d s : Nat) (x : FVec Ideal S8192x128 .f32) : FVec Ideal S8192x128 .f32 := fun i =>
  Network.apply (stage 13 s fun r => (decide (r.val &&& d = 0)) == false) (fun r : Fin (2 ^ 13) => x (ix2 (n0 := 8192) (n1 := 128) r (i 1))) (i 0)

/-- The stage at the row of a pair whose bit `s` is clear. -/
theorem stageArr_low (d s : Nat) (hs : s < 13) (x : FVec Ideal S8192x128 .f32) (r : Nat) (hr : r < 8192) (hb : r &&& 2 ^ s = 0)
    (hr' : r + 2 ^ s < 8192) (l : Fin 128) :
    stageArr d s x (ix2 (n0 := 8192) ⟨r, hr⟩ l) = if r &&& d = 0 then min (x (ix2 (n0 := 8192) ⟨r, hr⟩ l)) (x (ix2 (n0 := 8192) ⟨r + 2 ^ s, hr'⟩ l))
      else max (x (ix2 (n0 := 8192) ⟨r, hr⟩ l)) (x (ix2 (n0 := 8192) ⟨r + 2 ^ s, hr'⟩ l)) := by
  have hp : partner 13 s (⟨r, hr⟩ : Fin (2 ^ 13)) = ⟨r + 2 ^ s, hr'⟩ := Fin.ext (partner_val_of_clear hs _ hb)
  have h := (apply_stage hs (fun r => (decide (r.val &&& d = 0)) == false)
    (fun r : Fin (2 ^ 13) => x (ix2 (n0 := 8192) (n1 := 128) r l)) (⟨r, hr⟩ : Fin (2 ^ 13)) hb).1
  rw [hp] at h
  refine h.trans ?_
  by_cases h0 : r &&& d = 0 <;> simp [h0]

/-- The stage at the row of a pair whose bit `s` is set. -/
theorem stageArr_high (d s : Nat) (hs : s < 13) (x : FVec Ideal S8192x128 .f32) (r : Nat) (hr : r < 8192) (hb : r &&& 2 ^ s = 0)
    (hr' : r + 2 ^ s < 8192) (l : Fin 128) :
    stageArr d s x (ix2 (n0 := 8192) ⟨r + 2 ^ s, hr'⟩ l) = if r &&& d = 0 then max (x (ix2 (n0 := 8192) ⟨r, hr⟩ l)) (x (ix2 (n0 := 8192) ⟨r + 2 ^ s, hr'⟩ l))
      else min (x (ix2 (n0 := 8192) ⟨r, hr⟩ l)) (x (ix2 (n0 := 8192) ⟨r + 2 ^ s, hr'⟩ l)) := by
  have hp : partner 13 s (⟨r, hr⟩ : Fin (2 ^ 13)) = ⟨r + 2 ^ s, hr'⟩ := Fin.ext (partner_val_of_clear hs _ hb)
  have h := (apply_stage hs (fun r => (decide (r.val &&& d = 0)) == false)
    (fun r : Fin (2 ^ 13) => x (ix2 (n0 := 8192) (n1 := 128) r l)) (⟨r, hr⟩ : Fin (2 ^ 13)) hb).2
  rw [hp] at h
  refine h.trans ?_
  by_cases h0 : r &&& d = 0 <;> simp [h0]

/-! ## Bits of row numbers -/

/-- A row number with bit `s` clear, from a quotient and remainder by the pair's length. -/
theorem and_two_pow_of_pair (s q t : Nat) (ht : t < 2 ^ s) : (q * (2 * 2 ^ s) + t) &&& 2 ^ s = 0 := by
  rw [and_two_pow_eq_zero_iff_testBit]
  have : q * (2 * 2 ^ s) + t = 2 ^ (s + 1) * q + t := by rw [Nat.pow_succ]; ring
  rw [this, Nat.testBit_two_pow_mul_add _ (lt_trans ht (Nat.pow_lt_pow_right (by decide) (Nat.lt_succ_self s)))]
  simp [Nat.testBit_lt_two_pow ht]

/-- The bits of a row number at or above the pair's length are the quotient's. -/
theorem and_of_pair (w d q t : Nat) (ht : t < 2 ^ w) (hd : d % 2 ^ w = 0) : (q * 2 ^ w + t) &&& d = q * 2 ^ w &&& d := by
  apply Nat.eq_of_testBit_eq
  intro i
  obtain ⟨e, rfl⟩ : ∃ e, d = 2 ^ w * e := ⟨d / 2 ^ w, (Nat.mul_div_cancel' (Nat.dvd_of_mod_eq_zero hd)).symm⟩
  rw [Nat.testBit_and, Nat.testBit_and, mul_comm q]
  rcases Nat.lt_or_ge i w with hi | hi
  · simp [Nat.testBit_two_pow_mul, Nat.not_le.mpr hi]
  · rw [Nat.testBit_two_pow_mul_add _ ht, if_neg (Nat.not_lt.mpr hi)]
    simp [Nat.testBit_two_pow_mul, hi]

/-- Both factors' bits shift together. -/
theorem mul_and_mul (w q c : Nat) : (q * 2 ^ w &&& c * 2 ^ w = 0) ↔ (q &&& c = 0) := by
  rw [← Nat.shiftLeft_eq, ← Nat.shiftLeft_eq, ← Nat.shiftLeft_and_distrib, Nat.shiftLeft_eq]
  constructor
  · intro h; rcases Nat.mul_eq_zero.mp h with h | h
    · exact h
    · exact absurd h (Nat.two_pow_pos w).ne'
  · intro h; rw [h, Nat.zero_mul]

/-- A 32-bit mask test on a small number is the test on naturals. -/
theorem word_and (n : Nat) (hn : n < 2 ^ 32) (c : BitVec 32) : (BitVec.ofNat 32 n &&& c = 0#32) ↔ n &&& c.toNat = 0 := by
  rw [← BitVec.toNat_inj, BitVec.toNat_and, BitVec.toNat_ofNat, Nat.mod_eq_of_lt hn]
  simp

/-! ## Stages at distances below 8: the array as [1024, 1024], eight rows side by side -/

/-- The columns `128 t … 128 t + 127` of a [1024, 1024] array: the rows `8 i + t` of the [8192, 128] one. -/
abbrev cols (t : Nat) (h : S1024x1024.Slices ![0, t] S1024x128) (x : FVec Ideal S1024x1024 .f32) : FVec Ideal S1024x128 .f32 :=
  extractStridedSlice S1024x128 ![0, t] x h

/-- The lesser or the greater of two pieces, chosen per row by the bit `c` of the row number turned over by `b`. -/
abbrev pick (b : BitVec 1) (c : BitVec 32) (h1 : S1024x1.Iotas .tc 32 [0]) (h2 : S1024x1.Broadcasts S1024x1) (h3 : S1024x1.ShapeCasts S1024x1)
    (h4 : S1024x1.Broadcasts S1024x128) (x y : FVec Ideal S1024x128 .f32) : FVec Ideal S1024x128 .f32 :=
  select (broadcastTo S1024x128 (shapeCast S1024x1 (xori (xori
    (cmpi .eq (andi (iota .tc S1024x1 32 [0] h1) (broadcast S1024x1 c)) (broadcast S1024x1 0#32))
    (broadcastTo S1024x1 (broadcast S1024x1 b) h2)) (constantI S1024x1 1 1#1)) h3) h4) (minimumf x y) (maximumf x y)

/-- Eight pieces laid side by side. -/
abbrev beside (f0 f1 f2 f3 f4 f5 f6 f7 : FVec Ideal S1024x128 .f32)
    (h : Shape.Concatenates [S1024x128, S1024x128, S1024x128, S1024x128, S1024x128, S1024x128, S1024x128, S1024x128] S1024x1024 1) :
    FVec Ideal S1024x1024 .f32 :=
  concatenate S1024x1024 1 [⟨S1024x128, f0⟩, ⟨S1024x128, f1⟩, ⟨S1024x128, f2⟩, ⟨S1024x128, f3⟩, ⟨S1024x128, f4⟩, ⟨S1024x128, f5⟩,
    ⟨S1024x128, f6⟩, ⟨S1024x128, f7⟩] h

/-- A slice of eight rows side by side reads the row it stands for. -/
theorem cols_apply (t : Nat) (ht : t < 8) (o : Nat) (ho : o = 128 * t) (h : S1024x1024.Slices ![0, o] S1024x128) (x : FVec Ideal S1024x1024 .f32) (hc : S1024x1024.ShapeCasts S8192x128)
    (i : Fin 1024) (w : Fin 128) :
    cols o h x (ix2 i w) = shapeCast S8192x128 x hc (ix2 (n0 := 8192) ⟨8 * i.val + t, by omega⟩ w) := by
  subst ho
  have hl : 128 * t + w.val < 1024 := by omega
  refine (extractStridedSlice_apply ![0, 128 * t] x h (ix2 i w) (ix2 (n0 := 1024) (n1 := 1024) i ⟨128 * t + w.val, hl⟩)
    (fun a => by match a with | ⟨0, _⟩ => exact (Nat.zero_add _).symm | ⟨1, _⟩ => rfl)).trans ?_
  refine (shapeCast_apply x hc _ _ ?_).symm
  rw [Shape.rowMajor_val_two, Shape.rowMajor_val_two]
  show i.val * 1024 + (128 * t + w.val) = (8 * i.val + t) * 128 + w.val
  omega

/-- Eight pieces side by side are the [1024, 1024] view of the array whose rows they hold. -/
theorem beside_eq (f : Fin 8 → FVec Ideal S1024x128 .f32) (y : FVec Ideal S8192x128 .f32)
    (h : Shape.Concatenates [S1024x128, S1024x128, S1024x128, S1024x128, S1024x128, S1024x128, S1024x128, S1024x128] S1024x1024 1)
    (hc : S8192x128.ShapeCasts S1024x1024)
    (hf : ∀ (t : Fin 8) (i : Fin 1024) (w : Fin 128), f t (ix2 i w) = y (ix2 (n0 := 8192) ⟨8 * i.val + t.val, by omega⟩ w)) :
    beside (f 0) (f 1) (f 2) (f 3) (f 4) (f 5) (f 6) (f 7) h = shapeCast S1024x1024 y hc := by
  funext j
  obtain ⟨i, k, rfl⟩ : ∃ (i : Fin 1024) (k : Fin 1024), j = ix2 i k := ⟨j 0, j 1, eq_ix2 j⟩
  have ht : k.val / 128 < 8 := by omega
  have hw : k.val % 128 < 128 := Nat.mod_lt _ (by decide)
  have e1 := concatenate_ofFn_apply (t := S1024x1024) (s₁ := S1024x128) 1 f h rfl 128 rfl (ix2 i k) ⟨k.val / 128, ht⟩ rfl
    (ix2 i ⟨k.val % 128, hw⟩) rfl (fun b hb => by match b with | ⟨0, _⟩ => rfl | ⟨1, _⟩ => exact absurd rfl hb)
  refine Eq.trans e1 ?_
  rw [hf]
  refine (shapeCast_apply y hc _ _ ?_).symm
  rw [Shape.rowMajor_val_two, Shape.rowMajor_val_two]
  show (8 * i.val + k.val / 128) * 128 + k.val % 128 = i.val * 1024 + k.val
  omega

/-- The bit of the row number, turned over by `b`, at a row. -/
theorem turned_apply (b : BitVec 1) (c : BitVec 32) (h1 : S1024x1.Iotas .tc 32 [0]) (h2 : S1024x1.Broadcasts S1024x1)
    (h3 : S1024x1.ShapeCasts S1024x1) (h4 : S1024x1.Broadcasts S1024x128) (i : Fin 1024) (w : Fin 128) :
    broadcastTo S1024x128 (shapeCast S1024x1 (xori (xori
      (cmpi .eq (andi (iota .tc S1024x1 32 [0] h1) (broadcast S1024x1 c)) (broadcast S1024x1 0#32))
      (broadcastTo S1024x1 (broadcast S1024x1 b) h2)) (constantI S1024x1 1 1#1)) h3) h4 (ix2 i w)
      = BitVec.ofBool (decide (i.val &&& c.toNat = 0)) ^^^ b ^^^ 1#1 := by
  rw [shapeCast_self]
  refine (broadcastTo_apply _ h4 (ix2 i w) (ix2 (n0 := 1024) (n1 := 1) i 0) (fun a => by match a with | ⟨0, _⟩ => rfl | ⟨1, _⟩ => rfl)).trans ?_
  have e : cmpi .eq (andi (iota .tc S1024x1 32 [0] h1) (broadcast S1024x1 c)) (broadcast S1024x1 0#32) (ix2 (n0 := 1024) (n1 := 1) i 0)
      = BitVec.ofBool (decide (i.val &&& c.toNat = 0)) := by
    show BitVec.ofBool (BitVec.ofNat 32 (0 * 1024 + i.val) &&& c == 0#32) = _
    congr 1
    rw [beq_eq_decide, Nat.zero_mul, Nat.zero_add]
    exact decide_eq_decide.mpr (word_and i.val (by omega) c)
  show (cmpi .eq (andi (iota .tc S1024x1 32 [0] h1) (broadcast S1024x1 c)) (broadcast S1024x1 0#32) (ix2 (n0 := 1024) (n1 := 1) i 0) ^^^ b) ^^^ 1#1 = _
  rw [e]

/-- A chosen piece at a row whose chosen bit is not turned over. -/
theorem pick_one (c : BitVec 32) (h1 : S1024x1.Iotas .tc 32 [0]) (h2 : S1024x1.Broadcasts S1024x1)
    (h3 : S1024x1.ShapeCasts S1024x1) (h4 : S1024x1.Broadcasts S1024x128) (x y : FVec Ideal S1024x128 .f32) (i : Fin 1024) (w : Fin 128) :
    pick 1#1 c h1 h2 h3 h4 x y (ix2 i w) = if i.val &&& c.toNat = 0 then min (x (ix2 i w)) (y (ix2 i w)) else max (x (ix2 i w)) (y (ix2 i w)) := by
  refine (select_apply _ _ _ _).trans ?_
  rw [turned_apply]
  by_cases h : i.val &&& c.toNat = 0 <;> simp only [h, decide_true, decide_false, if_true, if_false] <;> rfl

/-- A chosen piece at a row whose chosen bit is turned over. -/
theorem pick_zero (c : BitVec 32) (h1 : S1024x1.Iotas .tc 32 [0]) (h2 : S1024x1.Broadcasts S1024x1)
    (h3 : S1024x1.ShapeCasts S1024x1) (h4 : S1024x1.Broadcasts S1024x128) (x y : FVec Ideal S1024x128 .f32) (i : Fin 1024) (w : Fin 128) :
    pick 0#1 c h1 h2 h3 h4 x y (ix2 i w) = if i.val &&& c.toNat = 0 then max (x (ix2 i w)) (y (ix2 i w)) else min (x (ix2 i w)) (y (ix2 i w)) := by
  refine (select_apply _ _ _ _).trans ?_
  rw [turned_apply]
  by_cases h : i.val &&& c.toNat = 0 <;> simp only [h, decide_true, decide_false, if_true, if_false] <;> rfl

/-! ## The three later stages at distances 4, 2, 1 -/

/-- A side-by-side stage is the network stage: at distance `2 ^ s`, each piece whose number has bit `s` clear holds the chosen
    of its rows and its partner's, each other piece the other of the two. -/
theorem beside_stage (d s : Nat) (hs : s < 3) (f : Fin 8 → FVec Ideal S1024x128 .f32) (y : FVec Ideal S8192x128 .f32)
    (h : Shape.Concatenates [S1024x128, S1024x128, S1024x128, S1024x128, S1024x128, S1024x128, S1024x128, S1024x128] S1024x1024 1)
    (hc : S8192x128.ShapeCasts S1024x1024)
    (hlow : ∀ (t : Fin 8) (t' : Nat) (ht' : t' < 8), t.val &&& 2 ^ s = 0 → t' = t.val + 2 ^ s → ∀ (i : Fin 1024) (w : Fin 128),
      f t (ix2 i w) = if (8 * i.val + t.val) &&& d = 0
        then min (y (ix2 (n0 := 8192) ⟨8 * i.val + t.val, by omega⟩ w)) (y (ix2 (n0 := 8192) ⟨8 * i.val + t', by omega⟩ w))
        else max (y (ix2 (n0 := 8192) ⟨8 * i.val + t.val, by omega⟩ w)) (y (ix2 (n0 := 8192) ⟨8 * i.val + t', by omega⟩ w)))
    (hhigh : ∀ (t : Fin 8) (t' : Nat) (ht' : t' < 8), t' &&& 2 ^ s = 0 → t.val = t' + 2 ^ s → ∀ (i : Fin 1024) (w : Fin 128),
      f t (ix2 i w) = if (8 * i.val + t') &&& d = 0
        then max (y (ix2 (n0 := 8192) ⟨8 * i.val + t.val, by omega⟩ w)) (y (ix2 (n0 := 8192) ⟨8 * i.val + t', by omega⟩ w))
        else min (y (ix2 (n0 := 8192) ⟨8 * i.val + t.val, by omega⟩ w)) (y (ix2 (n0 := 8192) ⟨8 * i.val + t', by omega⟩ w))) :
    beside (f 0) (f 1) (f 2) (f 3) (f 4) (f 5) (f 6) (f 7) h = shapeCast S1024x1024 (stageArr d s y) hc := by
  refine beside_eq f _ h hc fun t i w => ?_
  have hp : 0 < 2 ^ s := Nat.two_pow_pos s
  have bit : ∀ u : Nat, u < 8 → u &&& 2 ^ s = 0 → (8 * i.val + u) &&& 2 ^ s = 0 := by
    intro u hu8 hu
    rw [and_two_pow_eq_zero_iff_testBit] at hu ⊢
    rw [show 8 * i.val = 2 ^ 3 * i.val from rfl, Nat.testBit_two_pow_mul_add _ (by omega), if_pos hs]
    exact hu
  by_cases hb : t.val &&& 2 ^ s = 0
  · have hlt : t.val + 2 ^ s < 8 := by revert hb; revert t; interval_cases s <;> decide
    rw [hlow t (t.val + 2 ^ s) hlt hb rfl i w]
    have e := stageArr_low d s (by omega) y (8 * i.val + t.val) (by omega) (bit _ (by omega) hb) (by omega) w
    simp only [Nat.add_assoc] at e
    exact e.symm
  · obtain ⟨t', h1, h2⟩ : ∃ t', t' &&& 2 ^ s = 0 ∧ t.val = t' + 2 ^ s :=
      ⟨t.val - 2 ^ s, by revert hb; revert t; interval_cases s <;> decide⟩
    have hlt : t' < 8 := by omega
    rw [hhigh t t' hlt h1 h2 i w]
    have e := stageArr_high d s (by omega) y (8 * i.val + t') (by omega) (bit _ hlt h1) (by omega) w
    simp only [Nat.add_assoc, ← h2] at e
    rw [e, max_comm, min_comm]

/-- The direction's bit, eight rows at a time. -/
theorem dir_eight (c i t : Nat) (ht : t < 8) : ((8 * i + t) &&& c * 8 = 0) ↔ (i &&& c = 0) := by
  rw [mul_comm 8 i, show (8 : Nat) = 2 ^ 3 from rfl, and_of_pair 3 _ i t (by omega) (Nat.mul_mod_left c _)]
  exact mul_and_mul 3 i c

/-- A direction below 8 is decided by the row's place among its eight. -/
theorem dir_small (d i t : Nat) (hd : d < 8) (ht : t < 8) : (8 * i + t) &&& d = t &&& d := by
  apply Nat.eq_of_testBit_eq
  intro k
  rw [Nat.testBit_and, Nat.testBit_and, show 8 * i = 2 ^ 3 * i from rfl, Nat.testBit_two_pow_mul_add _ (by omega)]
  by_cases hk : k < 3
  · rw [if_pos hk]
  · have : d.testBit k = false := Nat.testBit_lt_two_pow (lt_of_lt_of_le hd (Nat.pow_le_pow_right (by decide) (not_lt.mp hk) : 2 ^ 3 ≤ 2 ^ k))
    simp [this]

/-- A chosen piece of the lower row of a pair. -/
theorem pick_low (c : BitVec 32) {h1 : S1024x1.Iotas .tc 32 [0]} {h2 : S1024x1.Broadcasts S1024x1}
    {h3 : S1024x1.ShapeCasts S1024x1} {h4 : S1024x1.Broadcasts S1024x128} (x : FVec Ideal S1024x1024 .f32) (hc : S1024x1024.ShapeCasts S8192x128)
    (t t' o o' : Nat) (ht : t < 8) (ht' : t' < 8) (ho : o = 128 * t) (ho' : o' = 128 * t')
    {h : S1024x1024.Slices ![0, o] S1024x128} {h' : S1024x1024.Slices ![0, o'] S1024x128} (i : Fin 1024) (w : Fin 128) :
    pick 1#1 c h1 h2 h3 h4 (cols o h x) (cols o' h' x) (ix2 i w) = if (8 * i.val + t) &&& (c.toNat * 8) = 0
      then min (shapeCast S8192x128 x hc (ix2 (n0 := 8192) ⟨8 * i.val + t, by omega⟩ w)) (shapeCast S8192x128 x hc (ix2 (n0 := 8192) ⟨8 * i.val + t', by omega⟩ w))
      else max (shapeCast S8192x128 x hc (ix2 (n0 := 8192) ⟨8 * i.val + t, by omega⟩ w)) (shapeCast S8192x128 x hc (ix2 (n0 := 8192) ⟨8 * i.val + t', by omega⟩ w)) := by
  rw [pick_one, cols_apply t ht o ho h x hc, cols_apply t' ht' o' ho' h' x hc]
  simp only [dir_eight c.toNat i.val t ht]

/-- A chosen piece of the upper row of a pair. -/
theorem pick_high (c : BitVec 32) {h1 : S1024x1.Iotas .tc 32 [0]} {h2 : S1024x1.Broadcasts S1024x1}
    {h3 : S1024x1.ShapeCasts S1024x1} {h4 : S1024x1.Broadcasts S1024x128} (x : FVec Ideal S1024x1024 .f32) (hc : S1024x1024.ShapeCasts S8192x128)
    (t t' o o' : Nat) (ht : t < 8) (ht' : t' < 8) (ho : o = 128 * t) (ho' : o' = 128 * t')
    {h : S1024x1024.Slices ![0, o] S1024x128} {h' : S1024x1024.Slices ![0, o'] S1024x128} (i : Fin 1024) (w : Fin 128) :
    pick 0#1 c h1 h2 h3 h4 (cols o h x) (cols o' h' x) (ix2 i w) = if (8 * i.val + t') &&& (c.toNat * 8) = 0
      then max (shapeCast S8192x128 x hc (ix2 (n0 := 8192) ⟨8 * i.val + t, by omega⟩ w)) (shapeCast S8192x128 x hc (ix2 (n0 := 8192) ⟨8 * i.val + t', by omega⟩ w))
      else min (shapeCast S8192x128 x hc (ix2 (n0 := 8192) ⟨8 * i.val + t, by omega⟩ w)) (shapeCast S8192x128 x hc (ix2 (n0 := 8192) ⟨8 * i.val + t', by omega⟩ w)) := by
  rw [pick_zero, cols_apply t ht o ho h x hc, cols_apply t' ht' o' ho' h' x hc]
  simp only [dir_eight c.toNat i.val t' ht']

/-- The lesser of two pieces at a row. -/
theorem min_cols (x : FVec Ideal S1024x1024 .f32) (hc : S1024x1024.ShapeCasts S8192x128)
    (t t' o o' : Nat) (ht : t < 8) (ht' : t' < 8) (ho : o = 128 * t) (ho' : o' = 128 * t')
    {h : S1024x1024.Slices ![0, o] S1024x128} {h' : S1024x1024.Slices ![0, o'] S1024x128} (i : Fin 1024) (w : Fin 128) :
    minimumf (cols o h x) (cols o' h' x) (ix2 i w) =
      min (shapeCast S8192x128 x hc (ix2 (n0 := 8192) ⟨8 * i.val + t, by omega⟩ w)) (shapeCast S8192x128 x hc (ix2 (n0 := 8192) ⟨8 * i.val + t', by omega⟩ w)) := by
  rw [minimumf_apply, cols_apply t ht o ho h x hc, cols_apply t' ht' o' ho' h' x hc]

/-- The greater of two pieces at a row. -/
theorem max_cols (x : FVec Ideal S1024x1024 .f32) (hc : S1024x1024.ShapeCasts S8192x128)
    (t t' o o' : Nat) (ht : t < 8) (ht' : t' < 8) (ho : o = 128 * t) (ho' : o' = 128 * t')
    {h : S1024x1024.Slices ![0, o] S1024x128} {h' : S1024x1024.Slices ![0, o'] S1024x128} (i : Fin 1024) (w : Fin 128) :
    maximumf (cols o h x) (cols o' h' x) (ix2 i w) =
      max (shapeCast S8192x128 x hc (ix2 (n0 := 8192) ⟨8 * i.val + t, by omega⟩ w)) (shapeCast S8192x128 x hc (ix2 (n0 := 8192) ⟨8 * i.val + t', by omega⟩ w)) := by
  rw [maximumf_apply, cols_apply t ht o ho h x hc, cols_apply t' ht' o' ho' h' x hc]

section printed
variable {h1 : S1024x1.Iotas .tc 32 [0]} {h2 : S1024x1.Broadcasts S1024x1}
  {h3 : S1024x1.ShapeCasts S1024x1} {h4 : S1024x1.Broadcasts S1024x128}
  {s0 : S1024x1024.Slices ![0, 0] S1024x128} {s1 : S1024x1024.Slices ![0, 128] S1024x128}
  {s2 : S1024x1024.Slices ![0, 256] S1024x128} {s3 : S1024x1024.Slices ![0, 384] S1024x128}
  {s4 : S1024x1024.Slices ![0, 512] S1024x128} {s5 : S1024x1024.Slices ![0, 640] S1024x128}
  {s6 : S1024x1024.Slices ![0, 768] S1024x128} {s7 : S1024x1024.Slices ![0, 896] S1024x128}
  {hh : Shape.Concatenates [S1024x128, S1024x128, S1024x128, S1024x128, S1024x128, S1024x128, S1024x128, S1024x128] S1024x1024 1}

/-- A later stage at distance 4, as the kernel prints it. -/
theorem fold_four (c : BitVec 32) (x : FVec Ideal S1024x1024 .f32) :
    beside (pick 1#1 c h1 h2 h3 h4 (cols 0 s0 x) (cols 512 s4 x)) (pick 1#1 c h1 h2 h3 h4 (cols 128 s1 x) (cols 640 s5 x))
      (pick 1#1 c h1 h2 h3 h4 (cols 256 s2 x) (cols 768 s6 x)) (pick 1#1 c h1 h2 h3 h4 (cols 384 s3 x) (cols 896 s7 x))
      (pick 0#1 c h1 h2 h3 h4 (cols 512 s4 x) (cols 0 s0 x)) (pick 0#1 c h1 h2 h3 h4 (cols 640 s5 x) (cols 128 s1 x))
      (pick 0#1 c h1 h2 h3 h4 (cols 768 s6 x) (cols 256 s2 x)) (pick 0#1 c h1 h2 h3 h4 (cols 896 s7 x) (cols 384 s3 x)) hh
      = shapeCast S1024x1024 (stageArr (c.toNat * 8) 2 (shapeCast S8192x128 x shapeCasts_S1024x1024_S8192x128)) shapeCasts_S8192x128_S1024x1024 := by
  refine beside_stage _ 2 (by decide) ![_, _, _, _, _, _, _, _] _ hh _ (fun t t' ht' hb e i w => ?_) (fun t t' ht' hb e i w => ?_)
  · fin_cases t <;> first | exact absurd hb (by decide) | (subst e; (refine pick_low c x _ _ _ _ _ ?_ ?_ ?_ ?_ i w <;> decide))
  · interval_cases t' <;> first | exact absurd hb (by decide) | (fin_cases t <;> first | exact absurd e (by decide) | (refine pick_high c x _ _ _ _ _ ?_ ?_ ?_ ?_ i w <;> decide))

/-- A later stage at distance 2, as the kernel prints it. -/
theorem fold_two (c : BitVec 32) (x : FVec Ideal S1024x1024 .f32) :
    beside (pick 1#1 c h1 h2 h3 h4 (cols 0 s0 x) (cols 256 s2 x)) (pick 1#1 c h1 h2 h3 h4 (cols 128 s1 x) (cols 384 s3 x))
      (pick 0#1 c h1 h2 h3 h4 (cols 256 s2 x) (cols 0 s0 x)) (pick 0#1 c h1 h2 h3 h4 (cols 384 s3 x) (cols 128 s1 x))
      (pick 1#1 c h1 h2 h3 h4 (cols 512 s4 x) (cols 768 s6 x)) (pick 1#1 c h1 h2 h3 h4 (cols 640 s5 x) (cols 896 s7 x))
      (pick 0#1 c h1 h2 h3 h4 (cols 768 s6 x) (cols 512 s4 x)) (pick 0#1 c h1 h2 h3 h4 (cols 896 s7 x) (cols 640 s5 x)) hh
      = shapeCast S1024x1024 (stageArr (c.toNat * 8) 1 (shapeCast S8192x128 x shapeCasts_S1024x1024_S8192x128)) shapeCasts_S8192x128_S1024x1024 := by
  refine beside_stage _ 1 (by decide) ![_, _, _, _, _, _, _, _] _ hh _ (fun t t' ht' hb e i w => ?_) (fun t t' ht' hb e i w => ?_)
  · fin_cases t <;> first | exact absurd hb (by decide) | (subst e; (refine pick_low c x _ _ _ _ _ ?_ ?_ ?_ ?_ i w <;> decide))
  · interval_cases t' <;> first | exact absurd hb (by decide) | (fin_cases t <;> first | exact absurd e (by decide) | (refine pick_high c x _ _ _ _ _ ?_ ?_ ?_ ?_ i w <;> decide))

/-- A later stage at distance 1, as the kernel prints it. -/
theorem fold_one (c : BitVec 32) (x : FVec Ideal S1024x1024 .f32) :
    beside (pick 1#1 c h1 h2 h3 h4 (cols 0 s0 x) (cols 128 s1 x)) (pick 0#1 c h1 h2 h3 h4 (cols 128 s1 x) (cols 0 s0 x))
      (pick 1#1 c h1 h2 h3 h4 (cols 256 s2 x) (cols 384 s3 x)) (pick 0#1 c h1 h2 h3 h4 (cols 384 s3 x) (cols 256 s2 x))
      (pick 1#1 c h1 h2 h3 h4 (cols 512 s4 x) (cols 640 s5 x)) (pick 0#1 c h1 h2 h3 h4 (cols 640 s5 x) (cols 512 s4 x))
      (pick 1#1 c h1 h2 h3 h4 (cols 768 s6 x) (cols 896 s7 x)) (pick 0#1 c h1 h2 h3 h4 (cols 896 s7 x) (cols 768 s6 x)) hh
      = shapeCast S1024x1024 (stageArr (c.toNat * 8) 0 (shapeCast S8192x128 x shapeCasts_S1024x1024_S8192x128)) shapeCasts_S8192x128_S1024x1024 := by
  refine beside_stage _ 0 (by decide) ![_, _, _, _, _, _, _, _] _ hh _ (fun t t' ht' hb e i w => ?_) (fun t t' ht' hb e i w => ?_)
  · fin_cases t <;> first | exact absurd hb (by decide) | (subst e; (refine pick_low c x _ _ _ _ _ ?_ ?_ ?_ ?_ i w <;> decide))
  · interval_cases t' <;> first | exact absurd hb (by decide) | (fin_cases t <;> first | exact absurd e (by decide) | (refine pick_high c x _ _ _ _ _ ?_ ?_ ?_ ?_ i w <;> decide))

/-! ## The first three stages, whose directions are fixed per piece -/

/-- The first stage, as the kernel prints it. -/
theorem fold_first (x : FVec Ideal S1024x1024 .f32) :
    beside (minimumf (cols 0 s0 x) (cols 128 s1 x)) (maximumf (cols 128 s1 x) (cols 0 s0 x))
      (maximumf (cols 256 s2 x) (cols 384 s3 x)) (minimumf (cols 384 s3 x) (cols 256 s2 x))
      (minimumf (cols 512 s4 x) (cols 640 s5 x)) (maximumf (cols 640 s5 x) (cols 512 s4 x))
      (maximumf (cols 768 s6 x) (cols 896 s7 x)) (minimumf (cols 896 s7 x) (cols 768 s6 x)) hh
      = shapeCast S1024x1024 (stageArr 2 0 (shapeCast S8192x128 x shapeCasts_S1024x1024_S8192x128)) shapeCasts_S8192x128_S1024x1024 := by
  refine beside_stage _ 0 (by decide) ![_, _, _, _, _, _, _, _] _ hh _ (fun t t' ht' hb e i w => ?_) (fun t t' ht' hb e i w => ?_)
  · rw [dir_small 2 _ _ (by decide) t.isLt]
    fin_cases t <;> first | exact absurd hb (by decide) | (subst e; (refine min_cols x _ _ _ _ _ ?_ ?_ ?_ ?_ i w <;> decide)) | (subst e; (refine max_cols x _ _ _ _ _ ?_ ?_ ?_ ?_ i w <;> decide))
  · rw [dir_small 2 _ _ (by decide) ht']
    interval_cases t' <;> first | exact absurd hb (by decide) | (fin_cases t <;> first | exact absurd e (by decide) | (refine min_cols x _ _ _ _ _ ?_ ?_ ?_ ?_ i w <;> decide) | (refine max_cols x _ _ _ _ _ ?_ ?_ ?_ ?_ i w <;> decide))

/-- The second stage, as the kernel prints it. -/
theorem fold_second (x : FVec Ideal S1024x1024 .f32) :
    beside (minimumf (cols 0 s0 x) (cols 256 s2 x)) (minimumf (cols 128 s1 x) (cols 384 s3 x))
      (maximumf (cols 256 s2 x) (cols 0 s0 x)) (maximumf (cols 384 s3 x) (cols 128 s1 x))
      (maximumf (cols 512 s4 x) (cols 768 s6 x)) (maximumf (cols 640 s5 x) (cols 896 s7 x))
      (minimumf (cols 768 s6 x) (cols 512 s4 x)) (minimumf (cols 896 s7 x) (cols 640 s5 x)) hh
      = shapeCast S1024x1024 (stageArr 4 1 (shapeCast S8192x128 x shapeCasts_S1024x1024_S8192x128)) shapeCasts_S8192x128_S1024x1024 := by
  refine beside_stage _ 1 (by decide) ![_, _, _, _, _, _, _, _] _ hh _ (fun t t' ht' hb e i w => ?_) (fun t t' ht' hb e i w => ?_)
  · rw [dir_small 4 _ _ (by decide) t.isLt]
    fin_cases t <;> first | exact absurd hb (by decide) | (subst e; (refine min_cols x _ _ _ _ _ ?_ ?_ ?_ ?_ i w <;> decide)) | (subst e; (refine max_cols x _ _ _ _ _ ?_ ?_ ?_ ?_ i w <;> decide))
  · rw [dir_small 4 _ _ (by decide) ht']
    interval_cases t' <;> first | exact absurd hb (by decide) | (fin_cases t <;> first | exact absurd e (by decide) | (refine min_cols x _ _ _ _ _ ?_ ?_ ?_ ?_ i w <;> decide) | (refine max_cols x _ _ _ _ _ ?_ ?_ ?_ ?_ i w <;> decide))

/-- The third stage, as the kernel prints it. -/
theorem fold_third (x : FVec Ideal S1024x1024 .f32) :
    beside (minimumf (cols 0 s0 x) (cols 128 s1 x)) (maximumf (cols 128 s1 x) (cols 0 s0 x))
      (minimumf (cols 256 s2 x) (cols 384 s3 x)) (maximumf (cols 384 s3 x) (cols 256 s2 x))
      (maximumf (cols 512 s4 x) (cols 640 s5 x)) (minimumf (cols 640 s5 x) (cols 512 s4 x))
      (maximumf (cols 768 s6 x) (cols 896 s7 x)) (minimumf (cols 896 s7 x) (cols 768 s6 x)) hh
      = shapeCast S1024x1024 (stageArr 4 0 (shapeCast S8192x128 x shapeCasts_S1024x1024_S8192x128)) shapeCasts_S8192x128_S1024x1024 := by
  refine beside_stage _ 0 (by decide) ![_, _, _, _, _, _, _, _] _ hh _ (fun t t' ht' hb e i w => ?_) (fun t t' ht' hb e i w => ?_)
  · rw [dir_small 4 _ _ (by decide) t.isLt]
    fin_cases t <;> first | exact absurd hb (by decide) | (subst e; (refine min_cols x _ _ _ _ _ ?_ ?_ ?_ ?_ i w <;> decide)) | (subst e; (refine max_cols x _ _ _ _ _ ?_ ?_ ?_ ?_ i w <;> decide))
  · rw [dir_small 4 _ _ (by decide) ht']
    interval_cases t' <;> first | exact absurd hb (by decide) | (fin_cases t <;> first | exact absurd e (by decide) | (refine min_cols x _ _ _ _ _ ?_ ?_ ?_ ?_ i w <;> decide) | (refine max_cols x _ _ _ _ _ ?_ ?_ ?_ ?_ i w <;> decide))

end printed

/-! ## Stages at distances of 8 and more: the array as [g, 2, j, 128] -/

/-- The bit of the first coordinate's row, spread over a [g, j, 128] array. -/
theorem spread_apply (g j : Nat) (e d : BitVec 32) (he : e.toNat = 2 * j) (hg : g * (2 * j) = 8192)
    (h1 : (⟨3, ![g, 1, 1]⟩ : Shape).Iotas .tc 32 [0]) (h3 : (⟨3, ![g, 1, 1]⟩ : Shape).ShapeCasts ⟨3, ![g, 1, 1]⟩)
    (h4 : (⟨3, ![g, 1, 1]⟩ : Shape).Broadcasts ⟨3, ![g, j, 128]⟩) (q : Fin g) (t : Fin j) (l : Fin 128) :
    broadcastTo ⟨3, ![g, j, 128]⟩ (shapeCast ⟨3, ![g, 1, 1]⟩ (cmpi .eq (andi (muli (iota .tc ⟨3, ![g, 1, 1]⟩ 32 [0] h1)
      (broadcast ⟨3, ![g, 1, 1]⟩ e)) (broadcast ⟨3, ![g, 1, 1]⟩ d)) (broadcast ⟨3, ![g, 1, 1]⟩ 0#32)) h3) h4 (ix3 q t l)
      = BitVec.ofBool (decide (q.val * (2 * j) &&& d.toNat = 0)) := by
  rw [shapeCast_self]
  refine (broadcastTo_apply _ h4 (ix3 q t l) (ix3 (n0 := g) (n1 := 1) (n2 := 1) q 0 0) (fun a => by
    match a with
    | ⟨0, _⟩ =>
      show q.val = if g = 1 then 0 else q.val
      have := q.isLt
      split <;> omega
    | ⟨1, _⟩ => rfl
    | ⟨2, _⟩ => rfl)).trans ?_
  show BitVec.ofBool (BitVec.ofNat 32 (0 * g + q.val) * e &&& d == 0#32) = _
  have hq : q.val * (2 * j) < 8192 := by
    have h2 : q.val + 1 ≤ g := q.isLt
    have h5 : 0 < 2 * j := by have := t.isLt; omega
    have h6 : (q.val + 1) * (2 * j) ≤ g * (2 * j) := Nat.mul_le_mul_right _ h2
    rw [Nat.add_mul] at h6
    omega
  have hm : BitVec.ofNat 32 (0 * g + q.val) * e = BitVec.ofNat 32 (q.val * (2 * j)) := by
    rw [Nat.zero_mul, Nat.zero_add, BitVec.ofNat_mul, ← he, BitVec.ofNat_toNat, BitVec.setWidth_eq]
  rw [hm]
  congr 1
  rw [beq_eq_decide]
  exact decide_eq_decide.mpr (word_and _ (by omega) d)

/-- One half of the pairs: the rows of a [g, 2, j, 128] view whose second coordinate is `b`. -/
theorem half_apply (g j b : Nat) (hg : g * (2 * j) = 8192) (x : FVec Ideal S8192x128 .f32)
    (h1 : S8192x128.ShapeCasts ⟨4, ![g, 2, j, 128]⟩) (h2 : (⟨4, ![g, 2, j, 128]⟩ : Shape).Slices ![0, b, 0, 0] ⟨4, ![g, 1, j, 128]⟩)
    (h3 : (⟨4, ![g, 1, j, 128]⟩ : Shape).ShapeCasts ⟨3, ![g, j, 128]⟩) (hb : b < 2) (q : Fin g) (t : Fin j) (l : Fin 128) (r : Nat) (hr : r < 8192)
    (hrow : r = q.val * (2 * j) + b * j + t.val) :
    shapeCast ⟨3, ![g, j, 128]⟩ (extractStridedSlice ⟨4, ![g, 1, j, 128]⟩ ![0, b, 0, 0] (shapeCast ⟨4, ![g, 2, j, 128]⟩ x h1) h2) h3 (ix3 q t l)
      = x (ix2 (n0 := 8192) ⟨r, hr⟩ l) := by
  subst hrow
  refine (shapeCast_apply _ h3 (ix3 q t l) (ix4 (n0 := g) (n1 := 1) (n2 := j) (n3 := 128) q 0 t l) ?_).trans ?_
  · rw [Shape.rowMajor_val_four, Shape.rowMajor_val_three]
    show ((q.val * 1 + 0) * j + t.val) * 128 + l.val = (q.val * j + t.val) * 128 + l.val
    ring
  refine (extractStridedSlice_apply _ _ h2 _ (ix4 (n0 := g) (n1 := 2) (n2 := j) (n3 := 128) q ⟨b, hb⟩ t l) (fun a => by
    match a with
    | ⟨0, _⟩ => exact (Nat.zero_add _).symm
    | ⟨1, _⟩ => rfl
    | ⟨2, _⟩ => exact (Nat.zero_add _).symm
    | ⟨3, _⟩ => exact (Nat.zero_add _).symm)).trans ?_
  refine shapeCast_apply _ h1 _ _ ?_
  rw [Shape.rowMajor_val_four, Shape.rowMajor_val_two]
  show (q.val * (2 * j) + b * j + t.val) * 128 + l.val = ((q.val * 2 + b) * j + t.val) * 128 + l.val
  ring

/-- A stage at distance `j` of 8 or more, as the kernel prints it: the two halves of every pair of blocks apart, the lesser and the
    greater of each two rows, and the two put back in the order the row number asks for. -/
theorem fold_far (g j s : Nat) (e d : BitVec 32) (x : FVec Ideal S8192x128 .f32)
    (a1 : S8192x128.ShapeCasts ⟨4, ![g, 2, j, 128]⟩) (a2 : (⟨4, ![g, 2, j, 128]⟩ : Shape).Slices ![0, 0, 0, 0] ⟨4, ![g, 1, j, 128]⟩)
    (a2' : (⟨4, ![g, 2, j, 128]⟩ : Shape).Slices ![0, 1, 0, 0] ⟨4, ![g, 1, j, 128]⟩)
    (a3 : (⟨4, ![g, 1, j, 128]⟩ : Shape).ShapeCasts ⟨3, ![g, j, 128]⟩)
    (h1 : (⟨3, ![g, 1, 1]⟩ : Shape).Iotas .tc 32 [0]) (h3 : (⟨3, ![g, 1, 1]⟩ : Shape).ShapeCasts ⟨3, ![g, 1, 1]⟩)
    (h4 : (⟨3, ![g, 1, 1]⟩ : Shape).Broadcasts ⟨3, ![g, j, 128]⟩) (a5 : (⟨3, ![g, j, 128]⟩ : Shape).ShapeCasts ⟨4, ![g, 1, j, 128]⟩)
    (a6 : Shape.Concatenates [⟨4, ![g, 1, j, 128]⟩, ⟨4, ![g, 1, j, 128]⟩] ⟨4, ![g, 2, j, 128]⟩ 1) (a7 : (⟨4, ![g, 2, j, 128]⟩ : Shape).ShapeCasts S8192x128)
    (he : e.toNat = 2 * j) (hg : g * (2 * j) = 8192) (hj : 2 ^ s = j) (hs : s < 13) (hd : d.toNat % (2 * j) = 0) :
    shapeCast S8192x128 (concatenate ⟨4, ![g, 2, j, 128]⟩ 1 [
      ⟨⟨4, ![g, 1, j, 128]⟩, shapeCast ⟨4, ![g, 1, j, 128]⟩ (select
        (broadcastTo ⟨3, ![g, j, 128]⟩ (shapeCast ⟨3, ![g, 1, 1]⟩ (cmpi .eq (andi (muli (iota .tc ⟨3, ![g, 1, 1]⟩ 32 [0] h1)
          (broadcast ⟨3, ![g, 1, 1]⟩ e)) (broadcast ⟨3, ![g, 1, 1]⟩ d)) (broadcast ⟨3, ![g, 1, 1]⟩ 0#32)) h3) h4)
        (minimumf (shapeCast ⟨3, ![g, j, 128]⟩ (extractStridedSlice ⟨4, ![g, 1, j, 128]⟩ ![0, 0, 0, 0] (shapeCast ⟨4, ![g, 2, j, 128]⟩ x a1) a2) a3)
          (shapeCast ⟨3, ![g, j, 128]⟩ (extractStridedSlice ⟨4, ![g, 1, j, 128]⟩ ![0, 1, 0, 0] (shapeCast ⟨4, ![g, 2, j, 128]⟩ x a1) a2') a3))
        (maximumf (shapeCast ⟨3, ![g, j, 128]⟩ (extractStridedSlice ⟨4, ![g, 1, j, 128]⟩ ![0, 0, 0, 0] (shapeCast ⟨4, ![g, 2, j, 128]⟩ x a1) a2) a3)
          (shapeCast ⟨3, ![g, j, 128]⟩ (extractStridedSlice ⟨4, ![g, 1, j, 128]⟩ ![0, 1, 0, 0] (shapeCast ⟨4, ![g, 2, j, 128]⟩ x a1) a2') a3))) a5⟩,
      ⟨⟨4, ![g, 1, j, 128]⟩, shapeCast ⟨4, ![g, 1, j, 128]⟩ (select
        (broadcastTo ⟨3, ![g, j, 128]⟩ (shapeCast ⟨3, ![g, 1, 1]⟩ (cmpi .eq (andi (muli (iota .tc ⟨3, ![g, 1, 1]⟩ 32 [0] h1)
          (broadcast ⟨3, ![g, 1, 1]⟩ e)) (broadcast ⟨3, ![g, 1, 1]⟩ d)) (broadcast ⟨3, ![g, 1, 1]⟩ 0#32)) h3) h4)
        (maximumf (shapeCast ⟨3, ![g, j, 128]⟩ (extractStridedSlice ⟨4, ![g, 1, j, 128]⟩ ![0, 0, 0, 0] (shapeCast ⟨4, ![g, 2, j, 128]⟩ x a1) a2) a3)
          (shapeCast ⟨3, ![g, j, 128]⟩ (extractStridedSlice ⟨4, ![g, 1, j, 128]⟩ ![0, 1, 0, 0] (shapeCast ⟨4, ![g, 2, j, 128]⟩ x a1) a2') a3))
        (minimumf (shapeCast ⟨3, ![g, j, 128]⟩ (extractStridedSlice ⟨4, ![g, 1, j, 128]⟩ ![0, 0, 0, 0] (shapeCast ⟨4, ![g, 2, j, 128]⟩ x a1) a2) a3)
          (shapeCast ⟨3, ![g, j, 128]⟩ (extractStridedSlice ⟨4, ![g, 1, j, 128]⟩ ![0, 1, 0, 0] (shapeCast ⟨4, ![g, 2, j, 128]⟩ x a1) a2') a3))) a5⟩] a6) a7
      = stageArr d.toNat s x := by
  funext i
  obtain ⟨R, l, rfl⟩ : ∃ (R : Fin 8192) (l : Fin 128), i = ix2 R l := ⟨i 0, i 1, eq_ix2 i⟩
  have hj0 : 0 < j := by rw [← hj]; exact Nat.two_pow_pos s
  have hq : R.val / (2 * j) < g := Nat.div_lt_of_lt_mul (by rw [mul_comm, hg]; exact R.isLt)
  have hrem : R.val % (2 * j) < 2 * j := Nat.mod_lt _ (by omega)
  have hR : R.val = R.val / (2 * j) * (2 * j) + R.val % (2 * j) := by rw [mul_comm]; exact (Nat.div_add_mod _ _).symm
  have hle : (R.val / (2 * j) + 1) * (2 * j) ≤ g * (2 * j) := Nat.mul_le_mul_right _ hq
  rw [Nat.add_mul, hg] at hle
  -- the block of pairs `q`, and the place `t` in its half
  generalize R.val / (2 * j) = q at hq hR hle
  have dir : ∀ t, t < j → ((q * (2 * j) + t) &&& d.toNat) = q * (2 * j) &&& d.toNat := by
    intro t ht
    have h2 : 2 * j = 2 ^ (s + 1) := by rw [Nat.pow_succ, hj]; ring
    rw [h2]
    exact and_of_pair (s + 1) d.toNat q t (by rw [← h2]; omega) (by rw [← h2]; exact hd)
  have bit : ∀ t, t < j → (q * (2 * j) + t) &&& 2 ^ s = 0 := by
    intro t ht
    have := and_two_pow_of_pair s q t (by rw [hj]; exact ht)
    rwa [hj] at this ⊢
  rcases Nat.lt_or_ge (R.val % (2 * j)) j with ht | hge
  · -- the lower row of a pair
    generalize R.val % (2 * j) = t at ht hR hrem
    have hb : q * (2 * j) + t < 8192 := by omega
    obtain rfl : R = ⟨q * (2 * j) + t, hb⟩ := Fin.ext hR
    refine (shapeCast_apply _ a7 _ (ix4 (n0 := g) (n1 := 2) (n2 := j) (n3 := 128) ⟨q, hq⟩ 0 ⟨t, ht⟩ l) ?_).trans ?_
    · rw [Shape.rowMajor_val_four, Shape.rowMajor_val_two]
      show ((q * 2 + 0) * j + t) * 128 + l.val = (q * (2 * j) + t) * 128 + l.val
      ring
    refine (concatenate_pair_apply_left (t := ⟨4, ![g, 2, j, 128]⟩) 1 _ _ a6 _ rfl (ix4 (n0 := g) (n1 := 1) (n2 := j) (n3 := 128) ⟨q, hq⟩ 0 ⟨t, ht⟩ l)
      (fun b => by match b with | ⟨0, _⟩ => rfl | ⟨1, _⟩ => rfl | ⟨2, _⟩ => rfl | ⟨3, _⟩ => rfl)).trans ?_
    refine (shapeCast_apply _ a5 _ (ix3 (n0 := g) (n1 := j) (n2 := 128) ⟨q, hq⟩ ⟨t, ht⟩ l) ?_).trans ?_
    · rw [Shape.rowMajor_val_four, Shape.rowMajor_val_three]
      show (q * j + t) * 128 + l.val = ((q * 1 + 0) * j + t) * 128 + l.val
      ring
    refine (select_apply _ _ _ _).trans ?_
    rw [spread_apply g j e d he hg, minimumf_apply, maximumf_apply,
      half_apply g j 0 hg x a1 a2 a3 (by decide) ⟨q, hq⟩ ⟨t, ht⟩ l (q * (2 * j) + t) (by omega) (by simp),
      half_apply g j 1 hg x a1 a2' a3 (by decide) ⟨q, hq⟩ ⟨t, ht⟩ l (q * (2 * j) + t + 2 ^ s) (by rw [hj]; omega) (by rw [hj]; dsimp only; omega),
      stageArr_low d.toNat s hs x (q * (2 * j) + t) (by omega) (bit t ht) (by rw [hj]; omega) l, dir t ht]
    by_cases h : q * (2 * j) &&& d.toNat = 0 <;> simp only [h, decide_true, decide_false, if_true, if_false] <;> rfl
  · -- the upper row of a pair
    obtain ⟨t, htt⟩ : ∃ t, R.val % (2 * j) = t + j := ⟨R.val % (2 * j) - j, by omega⟩
    rw [htt] at hR hrem
    have ht : t < j := by omega
    have hb : q * (2 * j) + t + 2 ^ s < 8192 := by rw [hj]; omega
    obtain rfl : R = ⟨q * (2 * j) + t + 2 ^ s, hb⟩ := Fin.ext (by
      show R.val = q * (2 * j) + t + 2 ^ s
      rw [hR, hj]; exact (Nat.add_assoc _ _ _).symm)
    refine (shapeCast_apply _ a7 _ (ix4 (n0 := g) (n1 := 2) (n2 := j) (n3 := 128) ⟨q, hq⟩ 1 ⟨t, ht⟩ l) ?_).trans ?_
    · rw [Shape.rowMajor_val_four, Shape.rowMajor_val_two]
      show ((q * 2 + 1) * j + t) * 128 + l.val = (q * (2 * j) + t + 2 ^ s) * 128 + l.val
      rw [hj]
      ring
    refine (concatenate_pair_apply_right (t := ⟨4, ![g, 2, j, 128]⟩) 1 _ _ a6 _ rfl rfl (ix4 (n0 := g) (n1 := 1) (n2 := j) (n3 := 128) ⟨q, hq⟩ 0 ⟨t, ht⟩ l)
      (fun b hb => by match b with | ⟨0, _⟩ => rfl | ⟨1, _⟩ => exact absurd rfl hb | ⟨2, _⟩ => rfl | ⟨3, _⟩ => rfl) rfl).trans ?_
    refine (shapeCast_apply _ a5 _ (ix3 (n0 := g) (n1 := j) (n2 := 128) ⟨q, hq⟩ ⟨t, ht⟩ l) ?_).trans ?_
    · rw [Shape.rowMajor_val_four, Shape.rowMajor_val_three]
      show (q * j + t) * 128 + l.val = ((q * 1 + 0) * j + t) * 128 + l.val
      ring
    refine (select_apply _ _ _ _).trans ?_
    rw [spread_apply g j e d he hg, minimumf_apply, maximumf_apply,
      half_apply g j 0 hg x a1 a2 a3 (by decide) ⟨q, hq⟩ ⟨t, ht⟩ l (q * (2 * j) + t) (by omega) (by simp),
      half_apply g j 1 hg x a1 a2' a3 (by decide) ⟨q, hq⟩ ⟨t, ht⟩ l (q * (2 * j) + t + 2 ^ s) (by rw [hj]; omega) (by rw [hj]; dsimp only; omega),
      stageArr_high d.toNat s hs x (q * (2 * j) + t) (by omega) (bit t ht) (by rw [hj]; omega) l, dir t ht]
    by_cases h : q * (2 * j) &&& d.toNat = 0 <;> simp only [h, decide_true, decide_false, if_true, if_false] <;> rfl

end Cert.Swd

end
-- ==== Proof.Columns.lean ====
/-
  A comparison network run on every column of the [8192, 128] array, and the kernel's 91 stages as one sorting network.
-/
module

public import proofs.«01_k».proof.Proof.Stages

@[expose] public section

noncomputable section

open Idealize.ShloMosaic Idealize.ShloMosaic.ValueIdx Idealize.ShloMosaic.SortNet
open Cert.KernelIdeal Cert.KernelIdeal.Gen

namespace Cert.Swd

/-- A network run on every column of an [8192, 128] array. -/
def netArr (N : Network (2 ^ 13)) (x : FVec Ideal S8192x128 .f32) : FVec Ideal S8192x128 .f32 := fun i =>
  Network.apply N (fun r : Fin (2 ^ 13) => x (ix2 (n0 := 8192) (n1 := 128) r (i 1))) (i 0)

/-- Two networks one after the other. -/
theorem netArr_append (N M : Network (2 ^ 13)) (x : FVec Ideal S8192x128 .f32) : netArr (N ++ M) x = netArr M (netArr N x) := by
  funext i
  unfold netArr
  rw [Network.apply_append]

/-- A network of parts runs its parts in order. -/
theorem netArr_flatMap {β : Type} (L : List β) (f : β → Network (2 ^ 13)) (x : FVec Ideal S8192x128 .f32) :
    netArr (L.flatMap f) x = L.foldl (fun y a => netArr (f a) y) x := by
  induction L generalizing x with
  | nil => funext i; exact congrArg x (eq_ix2 (n0 := 8192) (n1 := 128) i).symm
  | cons a L ih => rw [List.flatMap_cons, netArr_append, ih]; rfl

/-- Every column of the array sorted by the bitonic network of 8192 rows, the least entry first. -/
def sortCols (x : FVec Ideal S8192x128 .f32) : FVec Ideal S8192x128 .f32 := netArr (sortNet 13 false) x

/-- The network as its stages: phases `1 … 13`, in each the distances from the largest down. -/
theorem sortCols_eq (x : FVec Ideal S8192x128 .f32) :
    sortCols x = (List.range 13).foldl (fun y l => (List.range (l + 1)).reverse.foldl (fun z s => stageArr (2 ^ (l + 1)) s z) y) x := by
  unfold sortCols sortNet
  rw [netArr_flatMap]
  congr 1
  funext y l
  rw [netArr_flatMap]
  rfl

/-- A fold over the phases from `0` up, one phase at a time. -/
theorem foldl_phases {α : Type} (f : α → Nat → α) (a : α) (n : Nat) :
    (List.range (n + 1)).foldl f a = f ((List.range n).foldl f a) n := by
  rw [List.range_succ, List.foldl_append]; rfl

/-- A fold over the distances from the largest down, one stage at a time. -/
theorem foldl_distances {α : Type} (f : α → Nat → α) (a : α) (n : Nat) :
    (List.range (n + 1)).reverse.foldl f a = (List.range n).reverse.foldl f (f a n) := by
  rw [List.range_succ, List.reverse_append, List.foldl_append]; rfl

end Cert.Swd

end
-- ==== Proof.Body.lean ====
/-
  What the kernel's body stores at a grid point: the mean of the squared differences of the two halves of the sorted columns.
-/
module

public import proofs.«01_k».proof.Proof.Columns
public import proofs.«01_k».proof.Proof.Gen.KernelIdeal.Frame
public import Idealize.ShloMosaic.Lib.VecWindow

@[expose] public section

noncomputable section

open Idealize.ShloMosaic Idealize.ShloMosaic.ValueIdx Idealize.ShloMosaic.TcCoe Idealize.SL.Sem
open Cert.KernelIdeal Cert.KernelIdeal.Gen

namespace Cert.Swd

/-- The two projections of a grid point side by side: columns 0 to 63 of the first cloud, 64 to 127 of the second. -/
def projected (x0 x1 : FVec Ideal S1x8192x128 .f32) (x2 : FVec Ideal S1x128x64 .f32) : FVec Ideal S8192x128 .f32 :=
  concatenate S8192x128 1
    [⟨S8192x64, matmul dot_S8192x128_S128x64_S8192x64_1_0_0_1_n_n none (shapeCast S8192x128 x0 shapeCasts_S1x8192x128_S8192x128)
        (shapeCast S128x64 x2 shapeCasts_S1x128x64_S128x64) (constant (F := Ideal) S8192x64 FTy.f32 0x00000000#32)⟩,
      ⟨S8192x64, matmul dot_S8192x128_S128x64_S8192x64_1_0_0_1_n_n none (shapeCast S8192x128 x1 shapeCasts_S1x8192x128_S8192x128)
        (shapeCast S128x64 x2 shapeCasts_S1x128x64_S128x64) (constant (F := Ideal) S8192x64 FTy.f32 0x00000000#32)⟩]
    concatenates_S8192x64_S8192x64_S8192x128_d1

/-- The mean over the rows of the squared difference of the array's two halves. -/
def meanRow (y : FVec Ideal S8192x128 .f32) : FVec Ideal S1x64 .f32 :=
  divf (shapeCast S1x64 (multiReduction .add [0] S64
    (mulf (subf (extractStridedSlice S8192x64 ![0, 0] y slices_S8192x128_o0_0_S8192x64) (extractStridedSlice S8192x64 ![0, 64] y slices_S8192x128_o0_64_S8192x64))
      (subf (extractStridedSlice S8192x64 ![0, 0] y slices_S8192x128_o0_0_S8192x64) (extractStridedSlice S8192x64 ![0, 64] y slices_S8192x128_o0_64_S8192x64)))
    0x00000000#32 reduces_S8192x64_S64 (.inl rfl) rfl) shapeCasts_S64_S1x64) (broadcast S1x64 (Scalar.ofBits (F := Ideal) .f32 0x46000000#32))

/-- A load of a whole buffer reads what the buffer holds. -/
theorem load_whole {s : Shape} (arg : Memref sig .tc .vmem s .f32) (h : arg.IsWhole) (x : Vec Ideal s .f32)
    {off : Fin s.rank → ℕ} (inb : ∀ a, off a + s.size a ≤ s.size a) :
    View.readAt (Elt Ideal) arg.view (Rect.unit off s.size inb).toLoadRect (h.unread x) = x :=
  (View.readAt_full _ _ inb).trans (h.read_unread x)

set_option maxHeartbeats 0 in
set_option maxRecDepth 100000 in
/-- The mean row the body computes, from the two clouds' blocks and the directions' block: the stages it prints are those of the
    sorting network. -/
theorem row_eq (c : Dev nD) (arg2 : Memref sig .tc .vmem S1x8192x128 .f32) (harg2 : arg2.IsWhole) (arg3 : Memref sig .tc .vmem S1x8192x128 .f32)
    (harg3 : arg3.IsWhole) (arg4 : Memref sig .tc .vmem S1x128x64 .f32) (harg4 : arg4.IsWhole)
    (x0 x1 : Vec Ideal S1x8192x128 .f32) (x2 : Vec Ideal S1x128x64 .f32) :
    kernelRun0_A.sl.r_377 c arg2 harg2 arg3 harg3 arg4 harg4 x0 x1 x2 = meanRow (sortCols (projected x0 x1 x2)) := by
  rw [sortCols_eq]
  unfold meanRow projected
  simp only [foldl_phases, foldl_distances, List.range_zero, List.reverse_nil, List.foldl_nil, BitVec.reduceToNat, Nat.reduceMul, Nat.reduceAdd, Nat.reducePow]
  have f1 := @fold_first
  have f2 := @fold_second
  have f3 := @fold_third
  have g1 := @fold_one
  have g2 := @fold_two
  have g4 := @fold_four
  have h3 := @fold_far 512 8 3
  have h4 := @fold_far 256 16 4
  have h5 := @fold_far 128 32 5
  have h6 := @fold_far 64 64 6
  have h7 := @fold_far 32 128 7
  have h8 := @fold_far 16 256 8
  have h9 := @fold_far 8 512 9
  have h10 := @fold_far 4 1024 10
  have h11 := @fold_far 2 2048 11
  have h12 := @fold_far 1 4096 12
  have l0 := load_whole arg2 harg2 x0 inb_S1x8192x128_S1x8192x128_0_0_0
  have l1 := load_whole arg3 harg3 x1 inb_S1x8192x128_S1x8192x128_0_0_0
  have l2 := load_whole arg4 harg4 x2 inb_S1x128x64_S1x128x64_0_0_0
  dsimp only [beside, pick, cols] at f1 f2 f3 g1 g2 g4
  generalize stageArr = S at f1 f2 f3 g1 g2 g4 h3 h4 h5 h6 h7 h8 h9 h10 h11 h12 ⊢
  simp (config := { decide := true }) only [
    kernelRun0_A.sl.r, kernelRun0_A.sl.r_1, kernelRun0_A.sl.r_2, kernelRun0_A.sl.r_3, kernelRun0_A.sl.r_4, kernelRun0_A.sl.r_5, kernelRun0_A.sl.r_6,
    kernelRun0_A.sl.r_7, kernelRun0_A.sl.r_8, kernelRun0_A.sl.r_9, kernelRun0_A.sl.r_10, kernelRun0_A.sl.r_11, kernelRun0_A.sl.r_12,
    kernelRun0_A.sl.r_13, kernelRun0_A.sl.r_14, kernelRun0_A.sl.r_15, kernelRun0_A.sl.r_16, kernelRun0_A.sl.r_17, kernelRun0_A.sl.r_18,
    kernelRun0_A.sl.r_19, kernelRun0_A.sl.r_20, kernelRun0_A.sl.r_21, kernelRun0_A.sl.r_22, kernelRun0_A.sl.r_23, kernelRun0_A.sl.r_24,
    kernelRun0_A.sl.r_25, kernelRun0_A.sl.r_26, kernelRun0_A.sl.r_27, kernelRun0_A.sl.r_28, kernelRun0_A.sl.r_29, kernelRun0_A.sl.r_30,
    kernelRun0_A.sl.r_31, kernelRun0_A.sl.r_32, kernelRun0_A.sl.r_33, kernelRun0_A.sl.r_34, kernelRun0_A.sl.r_35, kernelRun0_A.sl.r_36,
    kernelRun0_A.sl.r_37, kernelRun0_A.sl.r_38, kernelRun0_A.sl.r_39, kernelRun0_A.sl.r_40, kernelRun0_A.sl.r_41, kernelRun0_A.sl.r_42,
    kernelRun0_A.sl.r_43, kernelRun0_A.sl.r_44, kernelRun0_A.sl.r_45, kernelRun0_A.sl.r_46, kernelRun0_A.sl.r_47, kernelRun0_A.sl.r_48,
    kernelRun0_A.sl.r_49, kernelRun0_A.sl.r_50, kernelRun0_A.sl.r_51, kernelRun0_A.sl.r_52, kernelRun0_A.sl.r_53, kernelRun0_A.sl.r_54,
    kernelRun0_A.sl.r_55, kernelRun0_A.sl.r_56, kernelRun0_A.sl.r_57, kernelRun0_A.sl.r_58, kernelRun0_A.sl.r_59, kernelRun0_A.sl.r_60,
    kernelRun0_A.sl.r_61, kernelRun0_A.sl.r_62, kernelRun0_A.sl.r_63, kernelRun0_A.sl.r_64, kernelRun0_A.sl.r_65, kernelRun0_A.sl.r_66,
    kernelRun0_A.sl.r_67, kernelRun0_A.sl.r_68, kernelRun0_A.sl.r_69, kernelRun0_A.sl.r_70, kernelRun0_A.sl.r_71, kernelRun0_A.sl.r_72,
    kernelRun0_A.sl.r_73, kernelRun0_A.sl.r_74, kernelRun0_A.sl.r_75, kernelRun0_A.sl.r_76, kernelRun0_A.sl.r_77, kernelRun0_A.sl.r_78,
    kernelRun0_A.sl.r_79, kernelRun0_A.sl.r_80, kernelRun0_A.sl.r_81, kernelRun0_A.sl.r_82, kernelRun0_A.sl.r_83, kernelRun0_A.sl.r_84,
    kernelRun0_A.sl.r_85, kernelRun0_A.sl.r_86, kernelRun0_A.sl.r_87, kernelRun0_A.sl.r_88, kernelRun0_A.sl.r_89, kernelRun0_A.sl.r_90,
    kernelRun0_A.sl.r_91, kernelRun0_A.sl.r_92, kernelRun0_A.sl.r_93, kernelRun0_A.sl.r_94, kernelRun0_A.sl.r_95, kernelRun0_A.sl.r_96,
    kernelRun0_A.sl.r_97, kernelRun0_A.sl.r_98, kernelRun0_A.sl.r_99, kernelRun0_A.sl.r_100, kernelRun0_A.sl.r_101, kernelRun0_A.sl.r_102,
    kernelRun0_A.sl.r_103, kernelRun0_A.sl.r_104, kernelRun0_A.sl.r_105, kernelRun0_A.sl.r_106, kernelRun0_A.sl.r_107, kernelRun0_A.sl.r_108,
    kernelRun0_A.sl.r_109, kernelRun0_A.sl.r_110, kernelRun0_A.sl.r_111, kernelRun0_A.sl.r_112, kernelRun0_A.sl.r_113, kernelRun0_A.sl.r_114,
    kernelRun0_A.sl.r_115, kernelRun0_A.sl.r_116, kernelRun0_A.sl.r_117, kernelRun0_A.sl.r_118, kernelRun0_A.sl.r_119, kernelRun0_A.sl.r_120,
    kernelRun0_A.sl.r_121, kernelRun0_A.sl.r_122, kernelRun0_A.sl.r_123, kernelRun0_A.sl.r_124, kernelRun0_A.sl.r_125, kernelRun0_A.sl.r_126,
    kernelRun0_A.sl.r_127, kernelRun0_A.sl.r_128, kernelRun0_A.sl.r_129, kernelRun0_A.sl.r_130, kernelRun0_A.sl.r_131, kernelRun0_A.sl.r_132,
    kernelRun0_A.sl.r_133, kernelRun0_A.sl.r_134, kernelRun0_A.sl.r_135, kernelRun0_A.sl.r_136, kernelRun0_A.sl.r_137, kernelRun0_A.sl.r_138,
    kernelRun0_A.sl.r_139, kernelRun0_A.sl.r_140, kernelRun0_A.sl.r_141, kernelRun0_A.sl.r_142, kernelRun0_A.sl.r_143, kernelRun0_A.sl.r_144,
    kernelRun0_A.sl.r_145, kernelRun0_A.sl.r_146, kernelRun0_A.sl.r_147, kernelRun0_A.sl.r_148, kernelRun0_A.sl.r_149, kernelRun0_A.sl.r_150,
    kernelRun0_A.sl.r_151, kernelRun0_A.sl.r_152, kernelRun0_A.sl.r_153, kernelRun0_A.sl.r_154, kernelRun0_A.sl.r_155, kernelRun0_A.sl.r_156,
    kernelRun0_A.sl.r_157, kernelRun0_A.sl.r_158, kernelRun0_A.sl.r_159, kernelRun0_A.sl.r_160, kernelRun0_A.sl.r_161, kernelRun0_A.sl.r_162,
    kernelRun0_A.sl.r_163, kernelRun0_A.sl.r_164, kernelRun0_A.sl.r_165, kernelRun0_A.sl.r_166, kernelRun0_A.sl.r_167, kernelRun0_A.sl.r_168,
    kernelRun0_A.sl.r_169, kernelRun0_A.sl.r_170, kernelRun0_A.sl.r_171, kernelRun0_A.sl.r_172, kernelRun0_A.sl.r_173, kernelRun0_A.sl.r_174,
    kernelRun0_A.sl.r_175, kernelRun0_A.sl.r_176, kernelRun0_A.sl.r_177, kernelRun0_A.sl.r_178, kernelRun0_A.sl.r_179, kernelRun0_A.sl.r_180,
    kernelRun0_A.sl.r_181, kernelRun0_A.sl.r_182, kernelRun0_A.sl.r_183, kernelRun0_A.sl.r_184, kernelRun0_A.sl.r_185, kernelRun0_A.sl.r_186,
    kernelRun0_A.sl.r_187, kernelRun0_A.sl.r_188, kernelRun0_A.sl.r_189, kernelRun0_A.sl.r_190, kernelRun0_A.sl.r_191, kernelRun0_A.sl.r_192,
    kernelRun0_A.sl.r_193, kernelRun0_A.sl.r_194, kernelRun0_A.sl.r_195, kernelRun0_A.sl.r_196, kernelRun0_A.sl.r_197, kernelRun0_A.sl.r_198,
    kernelRun0_A.sl.r_199, kernelRun0_A.sl.r_200, kernelRun0_A.sl.r_201, kernelRun0_A.sl.r_202, kernelRun0_A.sl.r_203, kernelRun0_A.sl.r_204,
    kernelRun0_A.sl.r_205, kernelRun0_A.sl.r_206, kernelRun0_A.sl.r_207, kernelRun0_A.sl.r_208, kernelRun0_A.sl.r_209, kernelRun0_A.sl.r_210,
    kernelRun0_A.sl.r_211, kernelRun0_A.sl.r_212, kernelRun0_A.sl.r_213, kernelRun0_A.sl.r_214, kernelRun0_A.sl.r_215, kernelRun0_A.sl.r_216,
    kernelRun0_A.sl.r_217, kernelRun0_A.sl.r_218, kernelRun0_A.sl.r_219, kernelRun0_A.sl.r_220, kernelRun0_A.sl.r_221, kernelRun0_A.sl.r_222,
    kernelRun0_A.sl.r_223, kernelRun0_A.sl.r_224, kernelRun0_A.sl.r_225, kernelRun0_A.sl.r_226, kernelRun0_A.sl.r_227, kernelRun0_A.sl.r_228,
    kernelRun0_A.sl.r_229, kernelRun0_A.sl.r_230, kernelRun0_A.sl.r_231, kernelRun0_A.sl.r_232, kernelRun0_A.sl.r_233, kernelRun0_A.sl.r_234,
    kernelRun0_A.sl.r_235, kernelRun0_A.sl.r_236, kernelRun0_A.sl.r_237, kernelRun0_A.sl.r_238, kernelRun0_A.sl.r_239, kernelRun0_A.sl.r_240,
    kernelRun0_A.sl.r_241, kernelRun0_A.sl.r_242, kernelRun0_A.sl.r_243, kernelRun0_A.sl.r_244, kernelRun0_A.sl.r_245, kernelRun0_A.sl.r_246,
    kernelRun0_A.sl.r_247, kernelRun0_A.sl.r_248, kernelRun0_A.sl.r_249, kernelRun0_A.sl.r_250, kernelRun0_A.sl.r_251, kernelRun0_A.sl.r_252,
    kernelRun0_A.sl.r_253, kernelRun0_A.sl.r_254, kernelRun0_A.sl.r_255, kernelRun0_A.sl.r_256, kernelRun0_A.sl.r_257, kernelRun0_A.sl.r_258,
    kernelRun0_A.sl.r_259, kernelRun0_A.sl.r_260, kernelRun0_A.sl.r_261, kernelRun0_A.sl.r_262, kernelRun0_A.sl.r_263, kernelRun0_A.sl.r_264,
    kernelRun0_A.sl.r_265, kernelRun0_A.sl.r_266, kernelRun0_A.sl.r_267, kernelRun0_A.sl.r_268, kernelRun0_A.sl.r_269, kernelRun0_A.sl.r_270,
    kernelRun0_A.sl.r_271, kernelRun0_A.sl.r_272, kernelRun0_A.sl.r_273, kernelRun0_A.sl.r_274, kernelRun0_A.sl.r_275, kernelRun0_A.sl.r_276,
    kernelRun0_A.sl.r_277, kernelRun0_A.sl.r_278, kernelRun0_A.sl.r_279, kernelRun0_A.sl.r_280, kernelRun0_A.sl.r_281, kernelRun0_A.sl.r_282,
    kernelRun0_A.sl.r_283, kernelRun0_A.sl.r_284, kernelRun0_A.sl.r_285, kernelRun0_A.sl.r_286, kernelRun0_A.sl.r_287, kernelRun0_A.sl.r_288,
    kernelRun0_A.sl.r_289, kernelRun0_A.sl.r_290, kernelRun0_A.sl.r_291, kernelRun0_A.sl.r_292, kernelRun0_A.sl.r_293, kernelRun0_A.sl.r_294,
    kernelRun0_A.sl.r_295, kernelRun0_A.sl.r_296, kernelRun0_A.sl.r_297, kernelRun0_A.sl.r_298, kernelRun0_A.sl.r_299, kernelRun0_A.sl.r_300,
    kernelRun0_A.sl.r_301, kernelRun0_A.sl.r_302, kernelRun0_A.sl.r_303, kernelRun0_A.sl.r_304, kernelRun0_A.sl.r_305, kernelRun0_A.sl.r_306,
    kernelRun0_A.sl.r_307, kernelRun0_A.sl.r_308, kernelRun0_A.sl.r_309, kernelRun0_A.sl.r_310, kernelRun0_A.sl.r_311, kernelRun0_A.sl.r_312,
    kernelRun0_A.sl.r_313, kernelRun0_A.sl.r_314, kernelRun0_A.sl.r_315, kernelRun0_A.sl.r_316, kernelRun0_A.sl.r_317, kernelRun0_A.sl.r_318,
    kernelRun0_A.sl.r_319, kernelRun0_A.sl.r_320, kernelRun0_A.sl.r_321, kernelRun0_A.sl.r_322, kernelRun0_A.sl.r_323, kernelRun0_A.sl.r_324,
    kernelRun0_A.sl.r_325, kernelRun0_A.sl.r_326, kernelRun0_A.sl.r_327, kernelRun0_A.sl.r_328, kernelRun0_A.sl.r_329, kernelRun0_A.sl.r_330,
    kernelRun0_A.sl.r_331, kernelRun0_A.sl.r_332, kernelRun0_A.sl.r_333, kernelRun0_A.sl.r_334, kernelRun0_A.sl.r_335, kernelRun0_A.sl.r_336,
    kernelRun0_A.sl.r_337, kernelRun0_A.sl.r_338, kernelRun0_A.sl.r_339, kernelRun0_A.sl.r_340, kernelRun0_A.sl.r_341, kernelRun0_A.sl.r_342,
    kernelRun0_A.sl.r_343, kernelRun0_A.sl.r_344, kernelRun0_A.sl.r_345, kernelRun0_A.sl.r_346, kernelRun0_A.sl.r_347, kernelRun0_A.sl.r_348,
    kernelRun0_A.sl.r_349, kernelRun0_A.sl.r_350, kernelRun0_A.sl.r_351, kernelRun0_A.sl.r_352, kernelRun0_A.sl.r_353, kernelRun0_A.sl.r_354,
    kernelRun0_A.sl.r_355, kernelRun0_A.sl.r_356, kernelRun0_A.sl.r_357, kernelRun0_A.sl.r_358, kernelRun0_A.sl.r_359, kernelRun0_A.sl.r_360,
    kernelRun0_A.sl.r_361, kernelRun0_A.sl.r_362, kernelRun0_A.sl.r_363, kernelRun0_A.sl.r_364, kernelRun0_A.sl.r_365, kernelRun0_A.sl.r_366,
    kernelRun0_A.sl.r_367, kernelRun0_A.sl.r_368, kernelRun0_A.sl.r_369, kernelRun0_A.sl.r_370, kernelRun0_A.sl.r_371, kernelRun0_A.sl.r_372,
    kernelRun0_A.sl.r_373, kernelRun0_A.sl.r_374, kernelRun0_A.sl.r_375, kernelRun0_A.sl.r_376, kernelRun0_A.sl.r_377, kernelRun0_A.sl.v913,
    kernelRun0_A.sl.v1013, kernelRun0_A.sl.v3581, kernelRun0_A.sl.v4153, k0_pay1, k0_pay2, k0_pay3, k0_pay4, k0_pay5, k0_pay6, k0_pay7, k0_pay8,
    k0_pay9, k0_pay10, k0_pay11, k0_pay12, k0_pay13, k0_pay14, k0_pay15, k0_pay16, k0_pay17, k0_pay18, k0_pay19, k0_pay20, k0_pay21, k0_pay22,
    k0_pay23, k0_pay24, k0_pay25, k0_pay26, k0_pay27, k0_pay28, k0_pay29, k0_pay30, k0_pay31, k0_pay32, k0_pay33, k0_pay34, k0_pay35, k0_pay36,
    k0_pay37, k0_pay38, k0_pay39, k0_pay40, k0_pay41, k0_pay42, k0_pay43, k0_pay44, k0_pay45, k0_pay46, k0_pay47, k0_pay48, k0_pay49, k0_pay50,
    k0_pay51, k0_pay52, k0_pay53, k0_pay54, k0_pay55, k0_pay56, k0_pay57, k0_pay58, k0_pay59, k0_pay60, k0_pay61, k0_pay62, k0_pay63, k0_pay64,
    k0_pay65, k0_pay66, k0_pay67, k0_pay68, k0_pay69, k0_pay70, k0_pay71, k0_pay72, k0_pay73, k0_pay74, k0_pay75, k0_pay76, k0_pay77, k0_pay78,
    k0_pay79, k0_pay80, k0_pay81, k0_pay82, k0_pay83, k0_pay84, k0_pay85, k0_pay86, k0_pay87, k0_pay88, k0_pay89, k0_pay90, k0_pay91, k0_pay92,
    k0_pay93, k0_pay94, k0_pay95, k0_pay96, k0_pay97, k0_pay98, k0_pay99, k0_pay100, k0_pay101, k0_pay102, k0_pay103, k0_pay104, k0_pay105, k0_pay106,
    k0_pay107, k0_pay108, k0_pay109, k0_pay110, k0_pay111, k0_pay112, k0_pay113, k0_pay114, k0_pay115, k0_pay116, k0_pay117, k0_pay118, k0_pay119,
    k0_pay120, k0_pay121, k0_pay122, k0_pay123, k0_pay124, k0_pay125, k0_pay126, k0_pay127, k0_pay128, k0_pay129, k0_pay130, k0_pay131, k0_pay132,
    k0_pay133, k0_pay134, k0_pay135, k0_pay136, k0_pay137, k0_pay138, k0_pay139, k0_pay140, k0_pay141, k0_pay142, k0_pay143, k0_pay144, k0_pay145,
    k0_pay146, k0_pay147, k0_pay148, k0_pay149, k0_pay150, k0_pay151, k0_pay152, k0_pay153, k0_pay154, k0_pay155, k0_pay156, k0_pay157, k0_pay158,
    k0_pay159, k0_pay160, k0_pay161, k0_pay162, k0_pay163, k0_pay164, k0_pay165, k0_pay166, k0_pay167, k0_pay168, k0_pay169, k0_pay170, k0_pay171,
    k0_pay172, k0_pay173, k0_pay174, k0_pay175, k0_pay176, k0_pay177, k0_pay178, k0_pay179, k0_pay180, k0_pay181, k0_pay182, k0_pay183, k0_pay184,
    k0_pay185, k0_pay186, k0_pay187, k0_pay188, k0_pay189, k0_pay190, k0_pay191, k0_pay192, k0_pay193, k0_pay194, k0_pay195, k0_pay196, k0_pay197,
    k0_pay198, k0_pay199, k0_pay200, k0_pay201, k0_pay202, k0_pay203, k0_pay204, k0_pay205, k0_pay206, k0_pay207, k0_pay208, k0_pay209, k0_pay210,
    k0_pay211, k0_pay212, k0_pay213, k0_pay214, k0_pay215, k0_pay216, k0_pay217, k0_pay218, k0_pay219, k0_pay220, k0_pay221, k0_pay222, k0_pay223,
    k0_pay224, k0_pay225, k0_pay226, k0_pay227, k0_pay228, k0_pay229, k0_pay230, k0_pay231, k0_pay232, k0_pay233, k0_pay234, k0_pay235, k0_pay236,
    k0_pay237, k0_pay238, k0_pay239, k0_pay240, k0_pay241, k0_pay242, k0_pay243, k0_pay244, k0_pay245, k0_pay246, k0_pay247, k0_pay248, k0_pay249,
    k0_pay250, k0_pay251, k0_pay252, k0_pay253, k0_pay254, k0_pay255, k0_pay256, k0_pay257, k0_pay258, k0_pay259, k0_pay260, k0_pay261, k0_pay262,
    k0_pay263, k0_pay264, k0_pay265, k0_pay266, k0_pay267, k0_pay268, k0_pay269, k0_pay270, k0_pay271, k0_pay272, k0_pay273, k0_pay274, k0_pay275,
    k0_pay276, k0_pay277, k0_pay278, k0_pay279, k0_pay280, k0_pay281, k0_pay282, k0_pay283, k0_pay284, k0_pay285, k0_pay286, k0_pay287, k0_pay288,
    k0_pay289, k0_pay290, k0_pay291, k0_pay292, k0_pay293, k0_pay294, k0_pay295, k0_pay296, k0_pay297, k0_pay298, k0_pay299, k0_pay300, k0_pay301,
    k0_pay302, k0_pay303, k0_pay304, k0_pay305, k0_pay306, k0_pay307, k0_pay308, k0_pay309, k0_pay310, k0_pay311, k0_pay312, k0_pay313, k0_pay314,
    k0_pay315, k0_pay316, k0_pay317, k0_pay318, k0_pay319, k0_pay320, k0_pay321, k0_pay322, k0_pay323, k0_pay324, k0_pay325, k0_pay326, k0_pay327,
    k0_pay328, k0_pay329, k0_pay330, k0_pay331, k0_pay332, k0_pay333, k0_pay334, k0_pay335, k0_pay336, k0_pay337, k0_pay338, k0_pay339, k0_pay340,
    k0_pay341, k0_pay342, k0_pay343, k0_pay344, k0_pay345, k0_pay346, k0_pay347, k0_pay348, k0_pay349, k0_pay350, k0_pay351, k0_pay352, k0_pay353,
    k0_pay354, k0_pay355, k0_pay356, k0_pay357, k0_pay358, k0_pay359, k0_pay360, k0_pay361, k0_pay362, k0_pay363, k0_pay364, k0_pay365, k0_pay366,
    k0_pay367, k0_pay368, k0_pay369, k0_pay370, k0_pay371, k0_pay372, k0_pay373, k0_pay374, k0_pay375, k0_pay376, k0_pay377, k0_pay378, k0_pay379,
    k0_pay380, k0_pay381, k0_pay382, k0_pay383, k0_pay384, k0_pay385, k0_pay386, k0_pay387, k0_pay388, k0_pay389, k0_pay390, k0_pay391, k0_pay392,
    k0_pay393, k0_pay394, k0_pay395, k0_pay396, k0_pay397, k0_pay398, k0_pay399, k0_pay400, k0_pay401, k0_pay402, k0_pay403, k0_pay404, k0_pay405,
    k0_pay406, k0_pay407, k0_pay408, k0_pay409, k0_pay410, k0_pay411, k0_pay412, k0_pay413, k0_pay414, k0_pay415, k0_pay416, k0_pay417, k0_pay418,
    k0_pay419, k0_pay420, k0_pay421, k0_pay422, k0_pay423, k0_pay424, k0_pay425, k0_pay426, k0_pay427, k0_pay428, k0_pay429, k0_pay430, k0_pay431,
    k0_pay432, k0_pay433, k0_pay434, k0_pay435, k0_pay436, k0_pay437, k0_pay438, k0_pay439, k0_pay440, k0_pay441, k0_pay442, k0_pay443, k0_pay444,
    k0_pay445, k0_pay446, k0_pay447, k0_pay448, k0_pay449, k0_pay450, k0_pay451, k0_pay452, k0_pay453, k0_pay454, k0_pay455, k0_pay456, k0_pay457,
    k0_pay458, k0_pay459, k0_pay460, k0_pay461, k0_pay462, k0_pay463, k0_pay464, k0_pay465, k0_pay466, k0_pay467, k0_pay468, k0_pay469, k0_pay470,
    k0_pay471, k0_pay472, k0_pay473, k0_pay474, k0_pay475, k0_pay476, k0_pay477, k0_pay478, k0_pay479, k0_pay480, k0_pay481, k0_pay482, k0_pay483,
    k0_pay484, k0_pay485, k0_pay486, k0_pay487, k0_pay488, k0_pay489, k0_pay490, k0_pay491, k0_pay492, k0_pay493, k0_pay494, k0_pay495, k0_pay496,
    k0_pay497, k0_pay498, k0_pay499, k0_pay500, k0_pay501, k0_pay502, k0_pay503, k0_pay504, k0_pay505, k0_pay506, k0_pay507, k0_pay508, k0_pay509,
    k0_pay510, k0_pay511, k0_pay512, k0_pay513, k0_pay514, k0_pay515, k0_pay516, k0_pay517, k0_pay518, k0_pay519, k0_pay520, k0_pay521, k0_pay522,
    k0_pay523, k0_pay524, k0_pay525, k0_pay526, k0_pay527, k0_pay528, k0_pay529, k0_pay530, k0_pay531, k0_pay532, k0_pay533, k0_pay534, k0_pay535,
    k0_pay536, k0_pay537, k0_pay538, k0_pay539, k0_pay540, k0_pay541, k0_pay542, k0_pay543, k0_pay544, k0_pay545, k0_pay546, k0_pay547, k0_pay548,
    k0_pay549, k0_pay550, k0_pay551, k0_pay552, k0_pay553, k0_pay554, k0_pay555, k0_pay556, k0_pay557, k0_pay558, k0_pay559, k0_pay560, k0_pay561,
    k0_pay562, k0_pay563, k0_pay564, k0_pay565, k0_pay566, f1, f2, f3, g1, g2, g4, shapeCast_shapeCast, h3, h4, h5, h6, h7, h8, h9, h10, h11, h12,
    BitVec.reduceToNat, Nat.reduceMul]
  rw [l0, l1, l2]

/-- What the body's one store writes: the mean row in the first 64 places, zeros in the others. -/
theorem stored_eq (c : Dev nD) (i : grid0.Coords) (arg2 : Memref sig .tc .vmem S1x8192x128 .f32) (harg2 : arg2.IsWhole)
    (arg3 : Memref sig .tc .vmem S1x8192x128 .f32) (harg3 : arg3.IsWhole) (arg4 : Memref sig .tc .vmem S1x128x64 .f32) (harg4 : arg4.IsWhole)
    (arg5 : Memref sig .tc .vmem S1x1x1x128 .f32) (harg5 : arg5.IsWhole) (arg6 : Memref sig .tc .vmem S8x128 .f32) (harg6 : arg6.IsWhole)
    (x0 x1 : Vec Ideal S1x8192x128 .f32) (x2 : Vec Ideal S1x128x64 .f32) :
    (kernelRun0_A c i arg2 harg2 arg3 harg3 arg4 harg4 arg5 harg5 arg6 harg6 x0 x1 x2).1
      = [⟨Rect.unit ![0, 0, 0, 0] ![1, 1, 1, 128] inb_S1x1x1x128_S1x1x1x128_0_0_0_0, k0_pay1 (meanRow (sortCols (projected x0 x1 x2))) k0_pay566⟩] := by
  rw [← row_eq c arg2 harg2 arg3 harg3 arg4 harg4 x0 x1 x2]
  rfl

end Cert.Swd

end
-- ==== Proof.Padded.lean ====
/-
  The projection matrix as the kernel is given it: padded with zeros to 128 columns and cut into two halves of 64.
-/
module

public import proofs.«01_k».proof.Proof.Gen.KernelIdeal.Frame
public import Idealize.ShloMosaic.Lib.Routing.OpsPair
public import Idealize.ShloMosaic.Lib.Routing.OpsSet
public import Idealize.ShloMosaic.Lib.Pipeline.Value
public import Idealize.ShloMosaic.Lib.ValueIdx

@[expose] public section

noncomputable section

open Idealize.ShloMosaic Idealize.ShloMosaic.ValueIdx Idealize.ShloMosaic.TcCoe Idealize.SL.Sem Idealize.ShloMosaic.StableHlo
open Cert.KernelIdeal Cert.KernelIdeal.Gen

namespace Cert.Swd

/-- The padded matrix: the projections written over zeros from column zero on. -/
def padded (x : FVec Ideal S128x100 .f32) : FVec Ideal S128x128 .f32 :=
  Host.scatter scatter_S128x128_S1_S128x100_01_n_1_0 (fun _ b => b)
    (broadcastInDim S128x128 ![] bcast_S_S128x128 (constant (F := Ideal) S_ .f32 0x00000000#32))
    (broadcastInDim S1 ![] bcast_S_S1 (constantI S_ 32 0#32)) x

/-- The two halves of the padded matrix, one after the other. -/
def halves (x : FVec Ideal S128x100 .f32) : FVec Ideal S2x128x64 .f32 :=
  transpose S2x128x64 [1, 0, 2] (shapeCast S128x2x64 (padded x) shapeCasts_S128x128_S128x2x64) transposes_S128x2x64_S2x128x64_1_0_2

/-- The region finds the two halves of the padded projections in its third operand. -/
theorem V_main_v4 (m : (ℓ : Loc nD τ sig) → Buf (Elt Ideal) ℓ) (c : Dev nD) :
    V m c main_v4 = halves (m ((c : Thread nD τ).loc main_arg2)) := by
  show after (List.flatten [hostOps0]) _ (Proc.devRef .tc main_v4) = _
  simp only [Gen.hostOps0, List.flatten_cons, List.flatten_nil, List.append_nil, List.cons_append, List.nil_append]
  after_results <;> rfl

/-- An update of the padding lands where it came from. -/
theorem lands (k' : Fin 128) (w' : Fin 100) (k w : Fin 128) :
    scatter_S128x128_S1_S128x100_01_n_1_0.resultIdx? (ix2 (n0 := 128) (n1 := 100) k' w') (broadcastInDim S1 ![] bcast_S_S1 (constantI S_ 32 0#32))
      = some (ix2 (n0 := 128) (n1 := 128) k w) ↔ k'.val = k.val ∧ w'.val = w.val := by
  refine (Routing.resultIdx?_ix2 (R := 128) (C := 128) scatter_S128x128_S1_S128x100_01_n_1_0 _ _ k w).trans ?_
  have s0 : scatter_S128x128_S1_S128x100_01_n_1_0.start (ix2 (n0 := 128) (n1 := 100) k' w') (broadcastInDim S1 ![] bcast_S_S1 (constantI S_ 32 0#32)) 0 = 0 := by
    unfold ScatterDims.start
    exact dif_neg (show ¬ (0 : Fin 2) ∈ ([1] : List (Fin 2)) by decide)
  have s1 : scatter_S128x128_S1_S128x100_01_n_1_0.start (ix2 (n0 := 128) (n1 := 100) k' w') (broadcastInDim S1 ![] bcast_S_S1 (constantI S_ 32 0#32)) 1 = 0 := by
    unfold ScatterDims.start
    exact (dif_pos (show (1 : Fin 2) ∈ ([1] : List (Fin 2)) by decide)).trans rfl
  have w0 : scatter_S128x128_S1_S128x100_01_n_1_0.window (ix2 (n0 := 128) (n1 := 100) k' w') 0 = k'.val := rfl
  have w1 : scatter_S128x128_S1_S128x100_01_n_1_0.window (ix2 (n0 := 128) (n1 := 100) k' w') 1 = w'.val := rfl
  refine Iff.trans (Iff.of_eq (congrArg₂ And (congrArg₂ Eq (congrArg₂ (· + ·) s0 (congrArg Nat.cast w0)) rfl) (congrArg₂ Eq (congrArg₂ (· + ·) s1 (congrArg Nat.cast w1)) rfl))) ?_
  omega

/-- Below column 100 the padded matrix is the projections. -/
theorem padded_apply (x : FVec Ideal S128x100 .f32) (k : Fin 128) (w : Fin 100) :
    padded x (ix2 (n0 := 128) (n1 := 128) k ⟨w.val, by omega⟩) = x (ix2 (n0 := 128) (n1 := 100) k w) := by
  unfold padded
  refine Idealize.ShloMosaic.Routing.scatter_set_hit _ _ _ _ _ _ (fun j hj => ?_) (ix2 (n0 := 128) (n1 := 100) k w) ((lands k w k _).2 ⟨rfl, rfl⟩)
  have e : j = ix2 (n0 := 128) (n1 := 100) (j 0) (j 1) := eq_ix2 j
  rw [e] at hj ⊢
  have h := (lands (j 0) (j 1) k _).1 hj
  rw [Fin.ext h.1, show j 1 = w from Fin.ext h.2]

/-- Column `64 a + w` of the projections is column `w` of half `a`. -/
theorem halves_apply (x : FVec Ideal S128x100 .f32) (a : Fin 2) (k : Fin 128) (w : Fin 64) (h : a.val * 64 + w.val < 100) :
    halves x (ix3 (n0 := 2) (n1 := 128) (n2 := 64) a k w) = x (ix2 (n0 := 128) (n1 := 100) k ⟨a.val * 64 + w.val, h⟩) := by
  unfold halves
  rw [transpose_apply (hk := (fun b => by fin_cases b <;> rfl : _)) (k := ix3 (n0 := 128) (n1 := 2) (n2 := 64) k a w)]
  rw [shapeCast_apply (k := ix2 (n0 := 128) (n1 := 128) k ⟨a.val * 64 + w.val, by omega⟩)]
  · exact padded_apply x k ⟨a.val * 64 + w.val, h⟩
  · rw [Shape.rowMajor_val_two, Shape.rowMajor_val_three]
    show k.val * 128 + (a.val * 64 + w.val) = (k.val * 2 + a.val) * 64 + w.val
    omega

end Cert.Swd

end
-- ==== Proof.Region.lean ====
/-
  What the kernel leaves in its result array: at block (b, a) the mean row of cloud pair b and half a of the directions.
-/
module

public import proofs.«01_k».proof.Proof.Body
public import proofs.«01_k».proof.Proof.Padded
public import proofs.«01_k».proof.Proof.Gen.KernelIdeal.Run
public import Idealize.ShloMosaic.Lib.Pipeline.ValueKit.Geometry

@[expose] public section

noncomputable section

open Idealize.ShloMosaic Idealize.ShloMosaic.ValueIdx Idealize.ShloMosaic.TcCoe Idealize.SL.Sem
open Idealize.ShloMosaic.Pipeline (Dat)
open Cert.KernelIdeal Cert.KernelIdeal.Gen

namespace Cert.Swd

/-- One cloud of the batch. -/
def cloud (x : FVec Ideal S8x8192x128 .f32) (b : Fin 8) : FVec Ideal S1x8192x128 .f32 :=
  fun j => x (ix3 (n0 := 8) (n1 := 8192) (n2 := 128) b (j 1) (j 2))

/-- One half of the padded directions. -/
def half (x : FVec Ideal S128x100 .f32) (a : Fin 2) : FVec Ideal S1x128x64 .f32 :=
  fun j => halves x (ix3 (n0 := 2) (n1 := 128) (n2 := 64) a (j 1) (j 2))

/-- The mean row of one pair of clouds and one half of the directions. -/
def pairRow (x y : FVec Ideal S8x8192x128 .f32) (z : FVec Ideal S128x100 .f32) (b : Fin 8) (a : Fin 2) : FVec Ideal S1x64 .f32 :=
  meanRow (sortCols (projected (cloud x b) (cloud y b) (half z a)))

/-- The whole result array of the kernel. -/
def rows (x y : FVec Ideal S8x8192x128 .f32) (z : FVec Ideal S128x100 .f32) : FVec Ideal S8x2x1x128 .f32 := fun i =>
  k0_pay1 (pairRow x y z (i 0) (i 1)) k0_pay566 (ix4 (n0 := 1) (n1 := 1) (n2 := 1) (n3 := 128) 0 0 0 (i 3))

/-- The cloud pair of a grid point. -/
def pairOf (t : Fin cfg0.N) : Fin 8 := ⟨t.val / 2, by have : cfg0.N = 16 := N_0; have := t.isLt; omega⟩

/-- The half of the directions of a grid point. -/
def halfOf (t : Fin cfg0.N) : Fin 2 := ⟨t.val % 2, by omega⟩

/-- The block each window takes at each grid point. -/
theorem indices : ∀ t : Fin cfg0.N, win0_0.index t = ![t.val / 2, 0, 0] ∧ win0_1.index t = ![t.val / 2, 0, 0]
    ∧ win0_2.index t = ![t.val % 2, 0, 0] ∧ win0_3.index t = ![t.val / 2, t.val % 2, 0, 0] :=
  (by decide +kernel : ∀ t : Fin grid0.N, _)

variable (m : (ℓ : Loc nD τ sig) → Buf (Elt Ideal) ℓ)

/-- The first operand's block at a grid point. -/
theorem block_first (c : Dev nD) (t : Fin cfg0.N) : iblk m c 0 t = cloud (m ((c : Thread nD τ).loc main_arg0)) (pairOf t) := by
  have h := (indices t).1
  rw [← V_main_arg0 m c]
  funext y
  refine congrArg (V m c main_arg0) (funext fun a => Fin.ext ?_)
  refine (Pipeline.Window.rect_emb_val win0_0 t y a).trans ?_
  rw [h]
  match a with
  | ⟨0, _⟩ => have : (y 0).val < 1 := (y 0).isLt; show t.val / 2 * 1 + (y 0).val = t.val / 2; omega
  | ⟨1, _⟩ => show 0 * 8192 + (y 1).val = (y 1).val; omega
  | ⟨2, _⟩ => show 0 * 128 + (y 2).val = (y 2).val; omega

/-- The second operand's block at a grid point. -/
theorem block_second (c : Dev nD) (t : Fin cfg0.N) : iblk m c 1 t = cloud (m ((c : Thread nD τ).loc main_arg1)) (pairOf t) := by
  have h := (indices t).2.1
  rw [← V_main_arg1 m c]
  funext y
  refine congrArg (V m c main_arg1) (funext fun a => Fin.ext ?_)
  refine (Pipeline.Window.rect_emb_val win0_1 t y a).trans ?_
  rw [h]
  match a with
  | ⟨0, _⟩ => have : (y 0).val < 1 := (y 0).isLt; show t.val / 2 * 1 + (y 0).val = t.val / 2; omega
  | ⟨1, _⟩ => show 0 * 8192 + (y 1).val = (y 1).val; omega
  | ⟨2, _⟩ => show 0 * 128 + (y 2).val = (y 2).val; omega

/-- The third operand's block at a grid point. -/
theorem block_third (c : Dev nD) (t : Fin cfg0.N) : iblk m c 2 t = half (m ((c : Thread nD τ).loc main_arg2)) (halfOf t) := by
  have h := (indices t).2.2.1
  unfold half
  rw [← V_main_v4 m c]
  funext y
  refine congrArg (V m c main_v4) (funext fun a => Fin.ext ?_)
  refine (Pipeline.Window.rect_emb_val win0_2 t y a).trans ?_
  rw [h]
  match a with
  | ⟨0, _⟩ => have : (y 0).val < 1 := (y 0).isLt; show t.val % 2 * 1 + (y 0).val = t.val % 2; omega
  | ⟨1, _⟩ => show 0 * 128 + (y 1).val = (y 1).val; omega
  | ⟨2, _⟩ => show 0 * 64 + (y 2).val = (y 2).val; omega

/-- What the body leaves in the output's staging buffer at a grid point. -/
theorem outs_eq (c : Dev nD) (t : Fin cfg0.N) : outsAt0 m c t
    = k0_pay1 (pairRow (m ((c : Thread nD τ).loc main_arg0)) (m ((c : Thread nD τ).loc main_arg1)) (m ((c : Thread nD τ).loc main_arg2)) (pairOf t) (halfOf t)) k0_pay566 := by
  have hz : (![0, 0, 0, 0] : Fin 4 → Nat) = fun _ => 0 := funext fun a => by fin_cases a <;> rfl
  unfold outsAt0 out0_A_3
  rw [View.read_writes_junk_eq_canon, stored_eq, View.canon_unit_zero hz, block_first, block_second, block_third]
  rfl

/-- The kernel's result array. -/
theorem reg_eq (c : Dev nD) : Cert.KernelIdeal.Value.reg_main_v5 m c
    = rows (m ((c : Thread nD τ).loc main_arg0)) (m ((c : Thread nD τ).loc main_arg1)) (m ((c : Thread nD τ).loc main_arg2)) := by
  unfold Cert.KernelIdeal.Value.reg_main_v5
  refine (dats m 0 c).arrAt_eq_of_covers 3 _ (by decide +kernel) fun t hf y => ?_
  have h := (indices t).2.2.2
  have e0 : (((cfg0.win 3).blk t).view.emb y) 0 = pairOf t := Fin.ext (by
    refine (Pipeline.Window.rect_emb_val win0_3 t y 0).trans ?_
    rw [h]
    have : (y 0).val < 1 := (y 0).isLt
    show t.val / 2 * 1 + (y 0).val = t.val / 2
    omega)
  have e1 : (((cfg0.win 3).blk t).view.emb y) 1 = halfOf t := Fin.ext (by
    refine (Pipeline.Window.rect_emb_val win0_3 t y 1).trans ?_
    rw [h]
    have : (y 1).val < 1 := (y 1).isLt
    show t.val % 2 * 1 + (y 1).val = t.val % 2
    omega)
  have e3 : (((cfg0.win 3).blk t).view.emb y) 3 = (y 3 : Fin 128) := Fin.ext (by
    refine (Pipeline.Window.rect_emb_val win0_3 t y 3).trans ?_
    rw [h]
    show 0 * 128 + (y 3).val = (y 3).val
    omega)
  have ey : (y : S1x1x1x128.Idx) = ix4 (n0 := 1) (n1 := 1) (n2 := 1) (n3 := 128) 0 0 0 (y 3) := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl
  show (dats m 0 c).after 3 t y = rows _ _ _ _
  rw [after0_3, outs_eq]
  unfold rows
  rw [e0, e1, e3]
  exact congrArg (k0_pay1 _ k0_pay566) ey

end Cert.Swd

end
-- ==== Proof.Means.lean ====
/-
  The projections of a grid point and the mean of their squared differences, read at an element.
-/
module

public import proofs.«01_k».proof.Proof.Body
public import Idealize.ShloMosaic.Lib.MatmulPlain
public import Idealize.ShloMosaic.PureOps.Ideal.Laws

@[expose] public section

noncomputable section

open Idealize.ShloMosaic Idealize.ShloMosaic.ValueIdx Idealize.ShloMosaic.TcCoe Idealize.SL.Sem
open Cert.KernelIdeal Cert.KernelIdeal.Gen

namespace Cert.Swd

/-- One projection read at an element: the dot product of a row of the cloud's block and a direction. -/
theorem product_apply (x : FVec Ideal S1x8192x128 .f32) (p : FVec Ideal S1x128x64 .f32) (r : Fin 8192) (w : Fin 64) :
    matmul dot_S8192x128_S128x64_S8192x64_1_0_0_1_n_n none (shapeCast S8192x128 x shapeCasts_S1x8192x128_S8192x128)
        (shapeCast S128x64 p shapeCasts_S1x128x64_S128x64) (constant (F := Ideal) S8192x64 FTy.f32 0x00000000#32) (ix2 (n0 := 8192) (n1 := 64) r w)
      = ∑ t : Fin 128, x (ix3 (n0 := 1) (n1 := 8192) (n2 := 128) 0 r t) * p (ix3 (n0 := 1) (n1 := 128) (n2 := 64) 0 t w) := by
  refine (Ideal.matmul_plain_apply (M := 8192) (K := 128) (N := 64) none _ _ _ r w).trans ?_
  have z : (constant (F := Ideal) S8192x64 FTy.f32 0x00000000#32) (ix2 (n0 := 8192) (n1 := 64) r w) = (0 : EReal) := Ideal.ofBits_zero_f32
  rw [z, zero_add]
  refine Finset.sum_congr rfl fun t _ => congrArg₂ (· * ·) (shapeCast_apply _ _ _ _ ?_) (shapeCast_apply _ _ _ _ ?_)
  · rw [Shape.rowMajor_val_two, Shape.rowMajor_val_three]
    show (0 * 8192 + r.val) * 128 + t.val = r.val * 128 + t.val
    omega
  · rw [Shape.rowMajor_val_two, Shape.rowMajor_val_three]
    show (0 * 128 + t.val) * 64 + w.val = t.val * 64 + w.val
    omega

/-- A column of the first cloud's half. -/
theorem projected_left (x0 x1 : FVec Ideal S1x8192x128 .f32) (x2 : FVec Ideal S1x128x64 .f32) (r : Fin 8192) (w : Fin 64) :
    projected x0 x1 x2 (ix2 (n0 := 8192) (n1 := 128) r ⟨w.val, by omega⟩)
      = ∑ t : Fin 128, x0 (ix3 (n0 := 1) (n1 := 8192) (n2 := 128) 0 r t) * x2 (ix3 (n0 := 1) (n1 := 128) (n2 := 64) 0 t w) := by
  unfold projected
  refine Eq.trans ?_ (product_apply x0 x2 r w)
  refine concatenate_pair_apply_left (t := S8192x128) (s₁ := S8192x64) (s₂ := S8192x64) (1 : Fin 2) _ _ _ (ix2 (n0 := 8192) (n1 := 128) r ⟨w.val, by omega⟩) rfl (ix2 (n0 := 8192) (n1 := 64) r w) fun b => ?_
  match b with
  | ⟨0, _⟩ => rfl
  | ⟨1, _⟩ => rfl

/-- A column of the second cloud's half. -/
theorem projected_right (x0 x1 : FVec Ideal S1x8192x128 .f32) (x2 : FVec Ideal S1x128x64 .f32) (r : Fin 8192) (w : Fin 64) :
    projected x0 x1 x2 (ix2 (n0 := 8192) (n1 := 128) r ⟨64 + w.val, by omega⟩)
      = ∑ t : Fin 128, x1 (ix3 (n0 := 1) (n1 := 8192) (n2 := 128) 0 r t) * x2 (ix3 (n0 := 1) (n1 := 128) (n2 := 64) 0 t w) := by
  unfold projected
  refine Eq.trans ?_ (product_apply x1 x2 r w)
  refine concatenate_pair_apply_right (t := S8192x128) (s₁ := S8192x64) (s₂ := S8192x64) (1 : Fin 2) _ _ _ (ix2 (n0 := 8192) (n1 := 128) r ⟨64 + w.val, by omega⟩) rfl rfl (ix2 (n0 := 8192) (n1 := 64) r w) (fun b hb => ?_) ?_
  · match b with
    | ⟨0, _⟩ => rfl
    | ⟨1, _⟩ => exact absurd rfl hb
  · show w.val + 64 = 64 + w.val
    omega

/-- The mean row read at a column. -/
theorem meanRow_apply (y : FVec Ideal S8192x128 .f32) (w : Fin 64) :
    meanRow y (ix2 (n0 := 1) (n1 := 64) 0 w)
      = Ideal.div (∑ r : Fin 8192,
          (y (ix2 (n0 := 8192) (n1 := 128) r ⟨w.val, by omega⟩) - y (ix2 (n0 := 8192) (n1 := 128) r ⟨64 + w.val, by omega⟩))
            * (y (ix2 (n0 := 8192) (n1 := 128) r ⟨w.val, by omega⟩) - y (ix2 (n0 := 8192) (n1 := 128) r ⟨64 + w.val, by omega⟩)))
        (Ideal.ofBits .f32 0x46000000#32) := by
  unfold meanRow
  refine congrArg (fun s => Ideal.div s (Ideal.ofBits .f32 0x46000000#32)) ?_
  refine (shapeCast_apply _ _ _ (ix1 (n := 64) w) ?_).trans ((Ideal.multiReduction_add_single _ _ reduces_S8192x64_S64 _ _ _).trans (Finset.sum_congr rfl fun r _ => ?_))
  · rw [Shape.rowMajor_val_two, Shape.rowMajor_val_one]
    show w.val = 0 * 64 + w.val
    omega
  have e : reduces_S8192x64_S64.lift (ix1 (n := 64) w) r = ix2 (n0 := 8192) (n1 := 64) r w := by
    funext b
    match b with
    | ⟨0, _⟩ => rfl
    | ⟨1, _⟩ => rfl
  rw [e]
  have a0 : extractStridedSlice S8192x64 ![0, 0] y slices_S8192x128_o0_0_S8192x64 (ix2 (n0 := 8192) (n1 := 64) r w)
      = y (ix2 (n0 := 8192) (n1 := 128) r ⟨w.val, by omega⟩) := extractStridedSlice_apply _ _ _ _ _ fun b => by
    match b with
    | ⟨0, _⟩ => exact (Nat.zero_add _).symm
    | ⟨1, _⟩ => exact (Nat.zero_add _).symm
  have a1 : extractStridedSlice S8192x64 ![0, 64] y slices_S8192x128_o0_64_S8192x64 (ix2 (n0 := 8192) (n1 := 64) r w)
      = y (ix2 (n0 := 8192) (n1 := 128) r ⟨64 + w.val, by omega⟩) := extractStridedSlice_apply _ _ _ _ _ fun b => by
    match b with
    | ⟨0, _⟩ => exact (Nat.zero_add _).symm
    | ⟨1, _⟩ => rfl
  show (extractStridedSlice S8192x64 ![0, 0] y slices_S8192x128_o0_0_S8192x64 (ix2 (n0 := 8192) (n1 := 64) r w) - extractStridedSlice S8192x64 ![0, 64] y slices_S8192x128_o0_64_S8192x64 (ix2 (n0 := 8192) (n1 := 64) r w) : EReal)
      * (extractStridedSlice S8192x64 ![0, 0] y slices_S8192x128_o0_0_S8192x64 (ix2 (n0 := 8192) (n1 := 64) r w) - extractStridedSlice S8192x64 ![0, 64] y slices_S8192x128_o0_64_S8192x64 (ix2 (n0 := 8192) (n1 := 64) r w) : EReal) = _
  rw [a0, a1]

end Cert.Swd

end
-- ==== Proof.Distance.lean ====
/-
  The distance of one pair of clouds along one direction, and what the kernel's program makes of these distances.
-/
module

public import proofs.«01_k».proof.Proof.Region
public import proofs.«01_k».proof.Proof.Means
public import proofs.«01_k».proof.Proof.Gen.KernelIdeal.Read

@[expose] public section

noncomputable section

open Idealize.ShloMosaic Idealize.ShloMosaic.ValueIdx Idealize.ShloMosaic.SortNet
open Cert.KernelIdeal Cert.KernelIdeal.Gen

namespace Cert.Swd

/-- A list of 8192 numbers passed through the sorting network. -/
def sorted (v : Fin 8192 → EReal) (r : Fin 8192) : EReal := Network.apply (sortNet 13 false) v r

/-- The products of all points of one cloud with one direction. -/
def shadow (x : FVec Ideal S8x8192x128 .f32) (z : FVec Ideal S128x100 .f32) (b : Fin 8) (k : Fin 100) : Fin 8192 → EReal :=
  fun r => ∑ t : Fin 128, x (ix3 (n0 := 8) (n1 := 8192) (n2 := 128) b r t) * z (ix2 (n0 := 128) (n1 := 100) t k)

/-- The mean of the squared differences of two sorted lists. -/
def distance (u v : Fin 8192 → EReal) : EReal :=
  Ideal.div (∑ r : Fin 8192, (sorted u r - sorted v r) * (sorted u r - sorted v r)) (Ideal.ofBits .f32 0x46000000#32)

/-- A column of the sorted array is the sorted column. -/
theorem sortCols_apply (y : FVec Ideal S8192x128 .f32) (r : Fin 8192) (c : Fin 128) :
    sortCols y (ix2 (n0 := 8192) (n1 := 128) r c) = sorted (fun r' => y (ix2 (n0 := 8192) (n1 := 128) r' c)) r := rfl

/-- The mean row holds the distances along the directions of its half. -/
theorem pairRow_apply (x y : FVec Ideal S8x8192x128 .f32) (z : FVec Ideal S128x100 .f32) (b : Fin 8) (a : Fin 2) (w : Fin 64)
    (h : a.val * 64 + w.val < 100) :
    pairRow x y z b a (ix2 (n0 := 1) (n1 := 64) 0 w) = distance (shadow x z b ⟨a.val * 64 + w.val, h⟩) (shadow y z b ⟨a.val * 64 + w.val, h⟩) := by
  have hd : ∀ t : Fin 128, half z a (ix3 (n0 := 1) (n1 := 128) (n2 := 64) 0 t w) = z (ix2 (n0 := 128) (n1 := 100) t ⟨a.val * 64 + w.val, h⟩) :=
    fun t => halves_apply z a t w h
  have hl : (fun r => projected (cloud x b) (cloud y b) (half z a) (ix2 (n0 := 8192) (n1 := 128) r ⟨w.val, by omega⟩))
      = shadow x z b ⟨a.val * 64 + w.val, h⟩ :=
    funext fun r => (projected_left _ _ _ r w).trans (Finset.sum_congr rfl fun t _ => congrArg (_ * ·) (hd t))
  have hr : (fun r => projected (cloud x b) (cloud y b) (half z a) (ix2 (n0 := 8192) (n1 := 128) r ⟨64 + w.val, by omega⟩))
      = shadow y z b ⟨a.val * 64 + w.val, h⟩ :=
    funext fun r => (projected_right _ _ _ r w).trans (Finset.sum_congr rfl fun t _ => congrArg (_ * ·) (hd t))
  unfold pairRow
  rw [meanRow_apply]
  simp only [sortCols_apply]
  rw [hl, hr]
  rfl

/-- The left half of a result row is the mean row. -/
theorem pay_apply (u v : FVec Ideal S1x64 .f32) (w : Fin 64) :
    k0_pay1 u v (ix4 (n0 := 1) (n1 := 1) (n2 := 1) (n3 := 128) 0 0 0 ⟨w.val, by omega⟩) = u (ix2 (n0 := 1) (n1 := 64) 0 w) := by
  unfold k0_pay1
  refine (shapeCast_apply _ shapeCasts_S1x128_S1x1x1x128 _ (ix2 (n0 := 1) (n1 := 128) 0 ⟨w.val, by omega⟩) ?_).trans ?_
  · rw [Shape.rowMajor_val_two, Shape.rowMajor_val_four]
    show 0 * 128 + w.val = ((0 * 1 + 0) * 1 + 0) * 128 + w.val
    omega
  · refine concatenate_pair_apply_left (t := S1x128) (s₁ := S1x64) (s₂ := S1x64) (1 : Fin 2) u v
      concatenates_S1x64_S1x64_S1x128_d1 (ix2 (n0 := 1) (n1 := 128) 0 ⟨w.val, by omega⟩) rfl
      (ix2 (n0 := 1) (n1 := 64) 0 w) (fun b => ?_)
    match b with
    | ⟨0, _⟩ => rfl
    | ⟨1, _⟩ => rfl

/-- After the reshapes and slices, entry `(b, k)` is the distance of cloud pair `b` along direction `k`. -/
theorem table_apply (x y : FVec Ideal S8x8192x128 .f32) (z : FVec Ideal S128x100 .f32) (i : S8x100.Idx) :
    Read.val_main_v9 (F := Ideal) (rows x y z) i = distance (shadow x z (i 0) (i 1)) (shadow y z (i 0) (i 1)) := by
  rw [Read.val_main_v9_apply, Read.val_main_v8_apply, Read.val_main_v7_apply, Read.val_main_v6_apply]
  have h0 : (i 0).val < 8 := (i 0).isLt
  have h1 : (i 1).val < 100 := (i 1).isLt
  have e : Read.idx_main_v6 (Read.idx_main_v7 (Read.idx_main_v8 (Read.idx_main_v9 i)))
      = ix4 (n0 := 8) (n1 := 2) (n2 := 1) (n3 := 128) (i 0) ⟨(i 1).val / 64, by omega⟩ 0 ⟨(i 1).val % 64, by omega⟩ := by
    funext a
    refine Fin.ext ?_
    match a with
    | ⟨0, _⟩ =>
      show (((((i 0).val * 128 + (i 1).val) / 128) * 2 + ((i 0).val * 128 + (i 1).val) / 64 % 2) * 64 + ((i 0).val * 128 + (i 1).val) % 64) / 128 = (i 0).val
      omega
    | ⟨1, _⟩ =>
      show (((((i 0).val * 128 + (i 1).val) / 128) * 2 + ((i 0).val * 128 + (i 1).val) / 64 % 2) * 64 + ((i 0).val * 128 + (i 1).val) % 64) / 64 % 2 = (i 1).val / 64
      omega
    | ⟨2, _⟩ => rfl
    | ⟨3, _⟩ =>
      show (((((i 0).val * 128 + (i 1).val) / 128) * 2 + ((i 0).val * 128 + (i 1).val) / 64 % 2) * 64 + ((i 0).val * 128 + (i 1).val) % 64) % 64 = (i 1).val % 64
      omega
  rw [e]
  have hk : (i 1).val / 64 * 64 + (i 1).val % 64 < 100 := by omega
  have ek : (⟨(i 1).val / 64 * 64 + (i 1).val % 64, hk⟩ : Fin 100) = i 1 := Fin.ext (by show (i 1).val / 64 * 64 + (i 1).val % 64 = (i 1).val; omega)
  refine (pay_apply (pairRow x y z (i 0) ⟨(i 1).val / 64, by omega⟩) k0_pay566 ⟨(i 1).val % 64, by omega⟩).trans ?_
  refine (pairRow_apply x y z (i 0) ⟨(i 1).val / 64, by omega⟩ ⟨(i 1).val % 64, by omega⟩ hk).trans ?_
  rw [ek]

end Cert.Swd

end
-- ==== Proof.Sorting.lean ====
/-
  The reference's sort of a column and the kernel's sorting network give the same column.
-/
module

public import proofs.«01_k».proof.ReferenceIdeal
public import Idealize.ShloMosaic.Lib.SortFacts
public import Idealize.ShloMosaic.Lib.SortNet.Sorts
public import Idealize.ShloMosaic.Lib.ValueIdx
public import Idealize.ShloMosaic.PureOps.Ideal.Laws
public import Idealize.ShloMosaic.Lib.SortNet.HostSort

@[expose] public section

noncomputable section

open Idealize.ShloMosaic Idealize.ShloMosaic.ValueIdx Idealize.ShloMosaic.SortNet

namespace Cert.Swd

/-- The reference's comparator asks whether its left operand is the smaller. -/
theorem comparator_eq (a b : Ideal .f32) :
    (Cert.ReferenceIdeal.comparator_f32_d1 (F := Ideal) a b == 1#1) = decide ((show EReal from a) < (show EReal from b)) := by
  have key : ∀ t : Ideal .f32, Scalar.select (FloatOps.cmpf (F := Ideal) (φ := .f32) .une t t) (FloatOps.ofBits .f32 0x7FC00000#32)
      (Scalar.select (FloatOps.cmpf (F := Ideal) (φ := .f32) .oeq t (FloatOps.ofBits .f32 0x00000000#32)) (FloatOps.ofBits .f32 0x00000000#32) t) = t := by
    intro t
    have h0 : (FloatOps.ofBits (F := Ideal) .f32 0x00000000#32) = (0 : EReal) := by simp
    rw [h0]
    have n0 : FloatOps.cmpf (F := Ideal) (φ := .f32) .une t t = 0#1 := congrArg BitVec.ofBool (decide_eq_false fun h => h rfl)
    rw [n0]
    show (if FloatOps.cmpf (F := Ideal) (φ := .f32) .oeq t 0 = 1#1 then (0 : EReal) else t) = t
    by_cases h : t = 0
    · rw [h, ite_self]
    · have z0 : FloatOps.cmpf (F := Ideal) (φ := .f32) .oeq t 0 = 0#1 := congrArg BitVec.ofBool (decide_eq_false h)
      rw [z0]
      rfl
  unfold Cert.ReferenceIdeal.comparator_f32_d1
  dsimp only
  rw [key a, key b]
  show (BitVec.ofBool (decide ((show EReal from a) < (show EReal from b))) == 1#1) = _
  cases decide ((show EReal from a) < (show EReal from b)) <;> rfl

/-- A stable sort of a column by "smaller" is the network's result on it: both are rising rearrangements of the column. -/
theorem sorted_eq_network (p : Nat) (w : Fin (2 ^ p) → EReal) :
    (fun i => w (sortedFrom (fun k k' => decide (w k < w k')) i)) = Network.apply (sortNet p false) w := by
  set B : Fin (2 ^ p) → Fin (2 ^ p) → Bool := fun k k' => decide (w k < w k') with hB
  have hbij : Function.Bijective (sortedFrom B) := ⟨sortedFrom_injective B, sortedFrom_surjective B⟩
  obtain ⟨τ, hτ⟩ := Network.exists_perm (sortNet p false) w
  have hm : Monotone (w ∘ (Equiv.ofBijective (sortedFrom B) hbij)) := by
    refine monotone_iff_forall_lt.2 fun i j hij => ?_
    have h := sortedFrom_noInversion B B
      (fun a b h => by simp only [hB, decide_eq_true_eq, decide_eq_false_iff_not, not_lt] at h ⊢; exact h.le) (fun _ _ h => h)
      (fun a b c h h' => by simp only [hB, decide_eq_false_iff_not, not_lt] at h h' ⊢; exact h'.trans h) i j hij
    simp only [hB, decide_eq_false_iff_not, not_lt] at h
    exact h
  have hn : Monotone (w ∘ τ) := hτ ▸ sortNet_apply_monotone p w
  rw [hτ]
  refine List.ofFn_injective ?_
  have hp : (List.ofFn (w ∘ (Equiv.ofBijective (sortedFrom B) hbij))).Perm (List.ofFn (w ∘ τ)) :=
    (Equiv.Perm.ofFn_comp_perm _ w).trans (Equiv.Perm.ofFn_comp_perm τ w).symm
  exact hp.eq_of_pairwise' (r := fun a b => a ≤ b) (List.pairwise_ofFn.2 fun _ _ h => hm h.le) (List.pairwise_ofFn.2 fun _ _ h => hn h.le)

/-- The same for a column of 8192 rows. -/
theorem sorted_eq_network_rows (w : Fin 8192 → EReal) (r : Fin 8192) :
    w (sortedFrom (fun k k' => decide (w k < w k')) r) = Network.apply (sortNet 13 false) w r :=
  congrFun (sorted_eq_network 13 w) r

/-- The reference's sort read at an element: the network's result on that element's column. -/
theorem sort_apply (x : FVec Ideal Cert.ReferenceIdeal.S8x8192x100 .f32) (b : Fin 8) (r : Fin 8192) (k : Fin 100) :
    Host.sort Cert.ReferenceIdeal.S8x8192x100 1 (Cert.ReferenceIdeal.comparator_f32_d1 (F := Ideal)) x (ix3 (n0 := 8) (n1 := 8192) (n2 := 100) b r k)
      = Network.apply (sortNet 13 false) (fun r' : Fin 8192 => x (ix3 (n0 := 8) (n1 := 8192) (n2 := 100) b r' k)) r := by
  refine Eq.trans ?_ (sorted_eq_network_rows (fun r' => x (ix3 (n0 := 8) (n1 := 8192) (n2 := 100) b r' k)) r)
  have al : ∀ v : Fin 8192, Shape.Idx.along (s := Cert.ReferenceIdeal.S8x8192x100) (ix3 (n0 := 8) (n1 := 8192) (n2 := 100) b r k) (1 : Fin 3) v
      = ix3 (n0 := 8) (n1 := 8192) (n2 := 100) b v k := fun v => by
    funext a
    match a with
    | ⟨0, _⟩ => rfl
    | ⟨1, _⟩ => rfl
    | ⟨2, _⟩ => rfl
  unfold Host.sort
  rw [dif_pos (by decide)]
  refine (congrArg x (al _)).trans ?_
  refine congrArg (fun B : Fin 8192 → Fin 8192 → Bool => x (ix3 (n0 := 8) (n1 := 8192) (n2 := 100) b (sortedFrom B r) k)) (funext fun v => funext fun v' => ?_)
  exact (comparator_eq _ _).trans (congrArg₂ (fun s t : EReal => decide (s < t)) (congrArg x (al v)) (congrArg x (al v')))

end Cert.Swd

end
-- ==== Proof.Power.lean ====
/-
  The reference's two powers: the square of an absolute value, and the square root of a value that is not negative.
-/
module

public import Idealize.ShloMosaic.PureOps.Ideal.Laws
public import Mathlib.Analysis.SpecialFunctions.Pow.NNReal

@[expose] public section

noncomputable section

open Idealize.ShloMosaic

namespace Cert.Swd

/-- The square of a difference is the power two of its absolute value, at the infinities too. -/
theorem square_eq (d : EReal) : d * d = Ideal.pow (max d (-d)) ((2 : ℝ) : EReal) := by
  induction d using EReal.rec with
  | bot => simp
  | top => simp
  | coe r =>
    have e : max (r : EReal) (-(r : EReal)) = ((|r| : ℝ) : EReal) := by
      rw [abs_eq_max_neg]
      rcases le_total r (-r) with h | h
      · rw [max_eq_right h, max_eq_right (by exact_mod_cast h)]; simp
      · rw [max_eq_left h, max_eq_left (by exact_mod_cast h)]
    rw [e, Ideal.pow_coe_coe, ← EReal.coe_mul]
    congr 1
    show r * r = |r| ^ (2 : ℝ)
    rw [Real.rpow_two, sq_abs, sq]

/-- A square is not negative, at the infinities too. -/
theorem square_nonneg (d : EReal) : 0 ≤ d * d := by
  induction d using EReal.rec with
  | bot => simp
  | top => simp
  | coe r =>
    rw [← EReal.coe_mul]
    exact_mod_cast mul_self_nonneg r

/-- The square root of a value that is not negative is its power one half. -/
theorem sqrt_eq (s : EReal) (hs : 0 ≤ s) : Ideal.sqrt s = Ideal.pow s ((1 / 2 : ℝ) : EReal) := by
  induction s using EReal.rec with
  | bot => simp at hs
  | top =>
    have : (0 : EReal) < ((1 / 2 : ℝ) : EReal) := by exact_mod_cast (by norm_num : (0 : ℝ) < 1 / 2)
    rw [Ideal.sqrt_top, Ideal.pow_top, if_pos this]
  | coe r =>
    have h : 0 ≤ r := by exact_mod_cast hs
    rw [Ideal.sqrt_coe, if_neg (not_lt.2 h), Ideal.pow_coe_coe]
    congr 1
    exact Real.sqrt_eq_rpow r

/-- A value that is not negative stays so when divided by a positive number. -/
theorem div_nonneg (s : EReal) (hs : 0 ≤ s) (n : ℝ) (hn : 0 < n) : 0 ≤ Ideal.div s (n : EReal) := by
  rw [Ideal.div_coe hn.ne']
  exact mul_nonneg hs (by exact_mod_cast (one_div_pos.2 hn).le)

end Cert.Swd

end
-- ==== Proof.Plain.lean ====
/-
  The reference read entry by entry: the same distances, squared and rooted as powers.
-/
module

public import proofs.«01_k».proof.Proof.Distance
public import proofs.«01_k».proof.Proof.Sorting
public import proofs.«01_k».proof.Proof.Power
public import proofs.«01_k».proof.Proof.Gen.ReferenceIdeal.Read

@[expose] public section

noncomputable section

open Idealize.ShloMosaic Idealize.ShloMosaic.ValueIdx Idealize.ShloMosaic.SortNet
open Cert.ReferenceIdeal

namespace Cert.Swd

/-- The constant two. -/
theorem two_eq : Ideal.ofBits .f32 0x40000000#32 = ((2 : ℝ) : EReal) := by
  simp [Ideal.ofBits, Ideal.ieee, -EReal.coe_mul]; norm_num

/-- The constant one half. -/
theorem half_eq : Ideal.ofBits .f32 0x3F000000#32 = ((1 / 2 : ℝ) : EReal) := by
  simp [Ideal.ofBits, Ideal.ieee, -EReal.coe_mul]; norm_num

/-- The number of points. -/
theorem points_eq : Ideal.ofBits .f32 0x46000000#32 = ((8192 : ℝ) : EReal) := by
  simp [Ideal.ofBits, Ideal.ieee, -EReal.coe_mul]; norm_num

/-- The number of directions. -/
theorem directions_eq : Ideal.ofBits .f32 0x42C80000#32 = ((100 : ℝ) : EReal) := by
  simp [Ideal.ofBits, Ideal.ieee, -EReal.coe_mul]; norm_num

variable (x y : FVec Ideal S8x8192x128 .f32) (z : FVec Ideal S128x100 .f32)

/-- The reference's sorted products. -/
theorem sorted_left (b : Fin 8) (r : Fin 8192) (k : Fin 100) :
    Read.val_main_v2 (F := Ideal) x z (ix3 (n0 := 8) (n1 := 8192) (n2 := 100) b r k) = sorted (shadow x z b k) r := by
  unfold Read.val_main_v2
  refine (sort_apply _ b r k).trans (congrArg (fun f => sorted f r) (funext fun r' => ?_))
  refine (Read.val_main_v0_apply x z _).trans (Finset.sum_congr rfl fun t _ => congrArg₂ (· * ·) (congrArg x ?_) (congrArg z ?_))
  · funext a; match a with | ⟨0, _⟩ => rfl | ⟨1, _⟩ => rfl | ⟨2, _⟩ => rfl
  · funext a; match a with | ⟨0, _⟩ => rfl | ⟨1, _⟩ => rfl

/-- The same of the second clouds. -/
theorem sorted_right (b : Fin 8) (r : Fin 8192) (k : Fin 100) :
    Read.val_main_v3 (F := Ideal) y z (ix3 (n0 := 8) (n1 := 8192) (n2 := 100) b r k) = sorted (shadow y z b k) r := sorted_left y z b r k

/-- One power of the reference is one square of the distance. -/
theorem power_apply (b : Fin 8) (r : Fin 8192) (k : Fin 100) :
    Read.val_main_v7 (F := Ideal) x y z (ix3 (n0 := 8) (n1 := 8192) (n2 := 100) b r k)
      = (sorted (shadow x z b k) r - sorted (shadow y z b k) r) * (sorted (shadow x z b k) r - sorted (shadow y z b k) r) := by
  rw [Read.val_main_v7_apply, Read.val_main_v6_apply, Read.val_main_cst_apply, Read.val_main_v5_apply, Read.val_main_v4_apply,
    sorted_left, sorted_right, square_eq, ← two_eq]
  rfl

/-- The reference's mean is the distance. -/
theorem mean_apply (i : S8x100.Idx) :
    Read.val_main_v10 (F := Ideal) x y z i = distance (shadow x z (i 0) (i 1)) (shadow y z (i 0) (i 1)) := by
  rw [Read.val_main_v10_apply, Read.val_main_v9_apply, Read.val_main_cst_1_apply, Read.val_main_v8_apply, Read.val_main_cst_0_apply]
  have e : ∀ r : Fin 8192, Read.idx_main_v8 i r = ix3 (n0 := 8) (n1 := 8192) (n2 := 100) (i 0) r (i 1) := fun r => by
    funext a; match a with | ⟨0, _⟩ => rfl | ⟨1, _⟩ => rfl | ⟨2, _⟩ => rfl
  have hs : ∑ r : Fin 8192, Read.val_main_v7 (F := Ideal) x y z (Read.idx_main_v8 i r)
      = ∑ r : Fin 8192, (sorted (shadow x z (i 0) (i 1)) r - sorted (shadow y z (i 0) (i 1)) r)
          * (sorted (shadow x z (i 0) (i 1)) r - sorted (shadow y z (i 0) (i 1)) r) :=
    Finset.sum_congr rfl fun r _ => (congrArg _ (e r)).trans (power_apply x y z (i 0) r (i 1))
  rw [hs]
  exact congrArg (Ideal.div · (Ideal.ofBits .f32 0x46000000#32)) ((congrArg (· + _) Ideal.ofBits_zero_f32).trans (zero_add _))

/-- A distance is not negative. -/
theorem distance_nonneg (u v : Fin 8192 → EReal) : 0 ≤ distance u v := by
  unfold distance
  rw [points_eq]
  exact div_nonneg _ (Finset.sum_nonneg fun r _ => square_nonneg _) _ (by norm_num)

/-- The mean of the distances over the directions is the same in both programs. -/
theorem directions_mean (i : S8.Idx) :
    Cert.KernelIdeal.Read.val_main_v12 (F := Ideal) (rows x y z) i = Read.val_main_v13 (F := Ideal) x y z i := by
  rw [Cert.KernelIdeal.Read.val_main_v12_apply, Cert.KernelIdeal.Read.val_main_v11_apply, Cert.KernelIdeal.Read.val_main_v10_apply,
    Read.val_main_v13_apply, Read.val_main_v12_apply, Read.val_main_v11_apply]
  have hs : ∑ k : Fin 100, Cert.KernelIdeal.Read.val_main_v9 (F := Ideal) (rows x y z) (Cert.KernelIdeal.Read.idx_main_v10 i k)
      = ∑ k : Fin 100, Read.val_main_v10 (F := Ideal) x y z (Read.idx_main_v11 i k) :=
    Finset.sum_congr rfl fun k _ => (table_apply x y z _).trans (mean_apply x y z _).symm
  rw [hs]
  rfl

/-- This mean is not negative. -/
theorem directions_nonneg (i : S8.Idx) : 0 ≤ Read.val_main_v13 (F := Ideal) x y z i := by
  rw [Read.val_main_v13_apply, Read.val_main_v12_apply, Read.val_main_cst_3_apply, Read.val_main_v11_apply, Read.val_main_cst_2_apply]
  have hs : 0 ≤ Ideal.ofBits .f32 0x00000000#32 + ∑ k : Fin 100, Read.val_main_v10 (F := Ideal) x y z (Read.idx_main_v11 i k) := by
    rw [Ideal.ofBits_zero_f32, zero_add]
    exact Finset.sum_nonneg fun k _ => by rw [mean_apply]; exact distance_nonneg _ _
  have h := div_nonneg _ hs 100 (by norm_num)
  rw [← directions_eq] at h
  exact h

/-- Hence the kernel's root is the reference's power of one half. -/
theorem root_apply (i : S8.Idx) :
    Cert.KernelIdeal.Read.val_main_v13 (F := Ideal) (rows x y z) i = Read.val_main_v15 (F := Ideal) x y z i := by
  rw [Cert.KernelIdeal.Read.val_main_v13_apply, directions_mean, Read.val_main_v15_apply, Read.val_main_v14_apply, Read.val_main_cst_4_apply]
  refine (sqrt_eq _ (directions_nonneg x y z i)).trans ?_
  rw [← half_eq]
  rfl

/-- Both programs give the same number. -/
theorem result_eq : Cert.KernelIdeal.Read.val_main_v15 (F := Ideal) (rows x y z) = Read.val_main_v17 (F := Ideal) x y z := by
  funext i
  rw [Cert.KernelIdeal.Read.val_main_v15_apply, Cert.KernelIdeal.Read.val_main_v14_apply, Read.val_main_v17_apply, Read.val_main_v16_apply]
  have hs : ∑ j : S8.Idx, Cert.KernelIdeal.Read.val_main_v13 (F := Ideal) (rows x y z) j = ∑ j : S8.Idx, Read.val_main_v15 (F := Ideal) x y z j :=
    Finset.sum_congr rfl fun j _ => root_apply x y z j
  rw [hs]
  rfl

end Cert.Swd

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Run
public import proofs.«01_k».proof.Proof.Gen.KernelIdeal.Read
public import proofs.«01_k».proof.Proof.Gen.ReferenceIdeal.Run
public import proofs.«01_k».proof.Proof.Gen.ReferenceIdeal.Read
public import proofs.«01_k».proof.Proof.Plain
public import Idealize.ShloMosaic.Adequacy
public import Idealize.ShloMosaic.Init

@[expose] public section

noncomputable section

namespace Cert.Proof

open Idealize.ShloMosaic Idealize.SL.Sem Cert.Kernel

/-- The kernel over ideal arithmetic and the reference leave the same number. -/
theorem algebraic [hKernelIdeal : Cert.KernelIdeal.Facts] [hReferenceIdeal : Cert.ReferenceIdeal.Facts] :
    algebraic_KernelIdeal_ReferenceIdeal := by
  intro m g m' g' _ hagree
  refine ⟨fun c => Cert.ReferenceIdeal.Read.val_main_v17 (F := Ideal)
    (m ((c.tc : Thread Cert.KernelIdeal.nD Cert.KernelIdeal.τ).loc Cert.KernelIdeal.main_arg0))
    (m ((c.tc : Thread Cert.KernelIdeal.nD Cert.KernelIdeal.τ).loc Cert.KernelIdeal.main_arg1))
    (m ((c.tc : Thread Cert.KernelIdeal.nD Cert.KernelIdeal.τ).loc Cert.KernelIdeal.main_arg2)), ?_, ?_⟩
  · refine (θ_run _ _ _).mono (fun _ h c => ⟨(h c).1.trans ?_, (h c).2⟩) (Cert.KernelIdeal.Value.run (F := Ideal) m g)
    rw [Cert.Swd.reg_eq m c]
    exact Cert.Swd.result_eq _ _ _
  · refine (θ_run _ _ _).mono (fun _ h c => ⟨(h c).1.trans ?_, (h c).2⟩) (Cert.ReferenceIdeal.Value.run (F := Ideal) m' g')
    rw [(hagree c).1, (hagree c).2.1, (hagree c).2.2]
    rfl

theorem claim : Cert.Claim := ⟨Cert.Kernel.Gen.facts, Cert.KernelIdeal.Gen.facts, Cert.ReferenceIdeal.Gen.facts, by
  refine ⟨fun m ρ _ => Cert.Kernel.Gen.frame m ρ, fun m ρ _ => Cert.KernelIdeal.Gen.frame m ρ, ?_, trivial, ?_⟩
  · intro m g _
    exact (θ_run _ _ _).mono (fun r h => ⟨fun c => ⟨(h c).2.1, (h c).2.2.1, (h c).2.2.2⟩, sem_eq_zero_of_no_sems (by decide) r.2⟩)
      (Cert.ReferenceIdeal.Value.run m g)
  · exact algebraic⟩

end Cert.Proof

end
